-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_self_excluded [hPre_self_excluded : Cert.Pre_self_excluded.Facts] (m : (ℓ : Loc Cert.KernelIdeal.nD Cert.KernelIdeal.τ Cert.KernelIdeal.sig) → Buf (Elt Ideal) ℓ) : Prop :=
  ∀ c : Dev Cert.KernelIdeal.nD,
    (Cert.Pre_self_excluded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_self_excluded [hPre_self_excluded : Cert.Pre_self_excluded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_self_excluded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_self_excluded [hKernelIdeal : Cert.KernelIdeal.Facts] [hPre_self_excluded : Cert.Pre_self_excluded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_self_excluded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_self_excluded [hReferenceIdeal : Cert.ReferenceIdeal.Facts] [hPre_self_excluded : Cert.Pre_self_excluded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_self_excluded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_temp" .f32 0x41200000#32 ((134217728 / 13421773 : ℝ) : EReal)

def algebraic_KernelIdeal_ReferenceIdeal_pre_self_excluded [hKernelIdeal : Cert.KernelIdeal.Facts] [hReferenceIdeal : Cert.ReferenceIdeal.Facts] [hPre_self_excluded : Cert.Pre_self_excluded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_self_excluded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_self_excluded : Cert.Pre_self_excluded.Facts),
    quiescent_Kernel (hKernel := hKernel)
    ∧ quiescent_KernelIdeal (hKernelIdeal := hKernelIdeal)
    ∧ quiescent_KernelIdeal_pre_self_excluded (hKernelIdeal := hKernelIdeal) (hPre_self_excluded := hPre_self_excluded)
    ∧ quiescent_ReferenceIdeal (hReferenceIdeal := hReferenceIdeal)
    ∧ quiescent_ReferenceIdeal_pre_self_excluded (hReferenceIdeal := hReferenceIdeal) (hPre_self_excluded := hPre_self_excluded)
    ∧ preserves_Kernel_KernelIdeal
    ∧ algebraic_KernelIdeal_ReferenceIdeal_pre_self_excluded (hKernelIdeal := hKernelIdeal) (hReferenceIdeal := hReferenceIdeal) (hPre_self_excluded := hPre_self_excluded)
-- ==== Pre_self_excluded.lean ====
abbrev S2x4097x1024 : Shape := ⟨3, ![2, 4097, 1024]⟩
abbrev S1024x1024 : Shape := ⟨2, ![1024, 1024]⟩
abbrev S1024 : Shape := ⟨1, ![1024]⟩
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)

variable [Facts]

def fn {F : FTy → Type} [FloatOps F] (main_arg0 : FVec F S2x4097x1024 .f32) (main_arg1 : FVec F S1024x1024 .f32) (main_arg2 : FVec F S1024 .f32) (main_arg3 : FVec F S1024x1024 .f32) (main_arg4 : FVec F S1024 .f32) (main_arg5 : FVec F S4096x4096 .f32) : IVec S4096x4096 1 :=
  let main_v0 : IVec S4096x4096 32 := iotaInDim S4096x4096 32 0
  let main_v1 : IVec S4096x4096 32 := iotaInDim S4096x4096 32 1
  let main_v2 : IVec S4096x4096 1 := cmpi .eq main_v0 main_v1
  let main_cst : FVec F S_ .f32 := constant S_ .f32 0xCCBEBC20#32
  let main_v3 : FVec F S4096x4096 .f32 := broadcastInDim S4096x4096 ![] bcast_S_S4096x4096 main_cst
  let main_v4 : IVec S4096x4096 1 := cmpf .ole main_arg5 main_v3
  let main_cst_0 : FVec F S_ .f32 := constant S_ .f32 0xC9742400#32
  let main_v5 : FVec F S4096x4096 .f32 := broadcastInDim S4096x4096 ![] bcast_S_S4096x4096 main_cst_0
  let main_v6 : IVec S4096x4096 1 := cmpf .oge main_arg5 main_v5
  let main_v7 : IVec S4096x4096 1 := select main_v2 main_v4 main_v6
  main_v7
-- ==== Kernel.lean ====
abbrev S2x4097x1024 : Shape := ⟨3, ![2, 4097, 1024]⟩
abbrev S1024x1024 : Shape := ⟨2, ![1024, 1024]⟩
abbrev S1024 : Shape := ⟨1, ![1024]⟩
abbrev S4096x4096 : Shape := ⟨2, ![4096, 4096]⟩
abbrev S1x1024 : Shape := ⟨2, ![1, 1024]⟩
abbrev S2x4096x1024 : Shape := ⟨3, ![2, 4096, 1024]⟩
abbrev S1x512x1024 : Shape := ⟨3, ![1, 512, 1024]⟩
abbrev S1x8x1024 : Shape := ⟨3, ![1, 8, 1024]⟩
abbrev S1x511x1024 : Shape := ⟨3, ![1, 511, 1024]⟩
abbrev S511x1024 : Shape := ⟨2, ![511, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S2x4096x8 : Shape := ⟨3, ![2, 4096, 8]⟩
abbrev S512x4096 : Shape := ⟨2, ![512, 4096]⟩
abbrev S1x512x8 : Shape := ⟨3, ![1, 512, 8]⟩
abbrev S4096x1024 : Shape := ⟨2, ![4096, 1024]⟩
abbrev S_ : Shape := ⟨0, ![]⟩
abbrev S1x4096x1024 : Shape := ⟨3, ![1, 4096, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S256x8 : Shape := ⟨2, ![256, 8]⟩
abbrev S1x256x8 : Shape := ⟨3, ![1, 256, 8]⟩

abbrev nBuf : Space → Nat
  | .hbm => 12
  | .vmem => 21
  | .smem => 0
  | _ => 0

abbrev bufTy : (tb : Table) → Fin (tcTables nBuf tb) → BufTy
  | .hbm, ⟨0, _⟩ => ⟨S2x4097x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S4096x4096, .f32⟩
  | .hbm, ⟨6, _⟩ => ⟨S1x1024, .f32⟩
  | .hbm, ⟨7, _⟩ => ⟨S1x1024, .f32⟩
  | .hbm, ⟨8, _⟩ => ⟨S2x4096x1024, .f32⟩
  | .hbm, ⟨9, _⟩ => ⟨S2x4096x1024, .f32⟩
  | .hbm, ⟨10, _⟩ => ⟨S2x4096x8, .i32⟩
  | .hbm, ⟨11, _⟩ => ⟨S2x4096x8, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x4096, .f32⟩
  | .local _ .vmem, ⟨15, _⟩ => ⟨S512x4096, .f32⟩
  | .local _ .vmem, ⟨16, _⟩ => ⟨S1x512x8, .i32⟩
  | .local _ .vmem, ⟨17, _⟩ => ⟨S1x512x8, .i32⟩
  | .local _ .vmem, ⟨18, _⟩ => ⟨S1x512x8, .f32⟩
  | .local _ .vmem, ⟨19, _⟩ => ⟨S1x512x8, .f32⟩
  | .local _ .vmem, ⟨20, _⟩ => ⟨S4096x1024, .f32⟩
  | _, _ => ⟨S2x4097x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c0_i32 : BitVec 32 := 0#32
  let c0_i32_0 : BitVec 32 := 0#32
  ![arg0.toNat, v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![2, 8], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_off1 (i : grid1.Coords) : Fin 3 → Nat :=
  let arg0 : BitVec 32 := BitVec.ofNat 32 (i 0).val
  let c0_i32_87 : BitVec 32 := 0#32
  let c0_i32_88 : BitVec 32 := 0#32
  ![arg0.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512x8 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== KernelIdeal.lean ====
variable {F : FTy → Type} [FloatOps F] [Named F]
def κ : String → Option EReal := fun
  | "inv_temp" => some ((134217728 / 13421773 : ℝ) : EReal)
  | _ => none
-- ==== ReferenceIdeal.lean ====
abbrev S2x4097x1024 : Shape := ⟨3, ![2, 4097, 1024]⟩
abbrev S1024x1024 : Shape := ⟨2, ![1024, 1024]⟩
abbrev S1024 : Shape := ⟨1, ![1024]⟩
abbrev S4096x4096 : Shape := ⟨2, ![4096, 4096]⟩
abbrev S2x4096x1024 : Shape := ⟨3, ![2, 4096, 1024]⟩
abbrev S1x1x1024 : Shape := ⟨3, ![1, 1, 1024]⟩
abbrev S_ : Shape := ⟨0, ![]⟩
abbrev S2x4096 : Shape := ⟨2, ![2, 4096]⟩
abbrev S2x4096x1 : Shape := ⟨3, ![2, 4096, 1]⟩
abbrev S2x4096x4096 : Shape := ⟨3, ![2, 4096, 4096]⟩
abbrev S1x4096x4096 : Shape := ⟨3, ![1, 4096, 4096]⟩
abbrev S2x4096x8 : Shape := ⟨3, ![2, 4096, 8]⟩

abbrev nBuf : Space → Nat
  | .hbm => 70
  | .vmem => 0
  | .smem => 0
  | _ => 0

abbrev bufTy : (tb : Table) → Fin (tcTables nBuf tb) → BufTy
  | .hbm, ⟨0, _⟩ => ⟨S2x4097x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S4096x4096, .f32⟩
  | .hbm, ⟨6, _⟩ => ⟨S2x4096x1024, .f32⟩
  | .hbm, ⟨7, _⟩ => ⟨S2x4096x1024, .f32⟩
  | .hbm, ⟨8, _⟩ => ⟨S1x1x1024, .f32⟩
  | .hbm, ⟨9, _⟩ => ⟨S2x4096x1024, .f32⟩
  | .hbm, ⟨10, _⟩ => ⟨S2x4096x1024, .f32⟩
  | .hbm, ⟨11, _⟩ => ⟨S2x4096x1024, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1024, .f32⟩
  | .hbm, ⟨20, _⟩ => ⟨S2x4096x1024, .f32⟩
  | .hbm, ⟨21, _⟩ => ⟨S2x4096x1024, .f32⟩
  | .hbm, ⟨22, _⟩ => ⟨S1x1x1024, .f32⟩
  | .hbm, ⟨23, _⟩ => ⟨S2x4096x1024, .f32⟩
  | .hbm, ⟨24, _⟩ => ⟨S2x4096x1024, .f32⟩
  | .hbm, ⟨25, _⟩ => ⟨S2x4096x1024, .f32⟩
  | .hbm, ⟨26, _⟩ => ⟨S_, .f32⟩
  | .hbm, ⟨27, _⟩ => ⟨S2x4096, .f32⟩
  | .hbm, ⟨28, _⟩ => ⟨S2x4096x1, .f32⟩
  | .hbm, ⟨29, _⟩ => ⟨S2x4096x1, .f32⟩
  | .hbm, ⟨30, _⟩ => ⟨S_, .f32⟩
  | .hbm, ⟨31, _⟩ => ⟨S2x4096x1, .f32⟩
  | .hbm, ⟨32, _⟩ => ⟨S2x4096x1, .f32⟩
  | .hbm, ⟨33, _⟩ => ⟨S2x4096x1024, .f32⟩
  | .hbm, ⟨34, _⟩ => ⟨S2x4096x1024, .f32⟩
  | .hbm, ⟨35, _⟩ => ⟨S2x4096x4096, .f32⟩
  | .hbm, ⟨36, _⟩ => ⟨S1x4096x4096, .f32⟩
  | .hbm, ⟨37, _⟩ => ⟨S2x4096x4096, .f32⟩
  | .hbm, ⟨38, _⟩ => ⟨S2x4096x4096, .f32⟩
  | .hbm, ⟨39, _⟩ => ⟨S4096x4096, .i32⟩
  | .hbm, ⟨40, _⟩ => ⟨S4096x4096, .i32⟩
  | .hbm, ⟨41, _⟩ => ⟨S_, .i32⟩
  | .hbm, ⟨42, _⟩ => ⟨S4096x4096, .i32⟩
  | .hbm, ⟨43, _⟩ => ⟨S4096x4096, .i32⟩
  | .hbm, ⟨44, _⟩ => ⟨S4096x4096, .i1⟩
  | .hbm, ⟨45, _⟩ => ⟨S1x4096x4096, .i1⟩
  | .hbm, ⟨46, _⟩ => ⟨S_, .f32⟩
  | .hbm, ⟨47, _⟩ => ⟨S_, .f32⟩
  | .hbm, ⟨48, _⟩ => ⟨S2x4096x4096, .i1⟩
  | .hbm, ⟨49, _⟩ => ⟨S2x4096x4096, .f32⟩
  | .hbm, ⟨50, _⟩ => ⟨S2x4096x4096, .f32⟩
  | .hbm, ⟨51, _⟩ => ⟨S_, .f32⟩
  | .hbm, ⟨52, _⟩ => ⟨S2x4096x4096, .f32⟩
  | .hbm, ⟨53, _⟩ => ⟨S2x4096x4096, .f32⟩
  | .hbm, ⟨54, _⟩ => ⟨S2x4096x8, .f32⟩
  | .hbm, ⟨55, _⟩ => ⟨S2x4096x8, .i32⟩
  | .hbm, ⟨56, _⟩ => ⟨S_, .f32⟩
  | .hbm, ⟨57, _⟩ => ⟨S2x4096, .f32⟩
  | .hbm, ⟨58, _⟩ => ⟨S_, .f32⟩
  | .hbm, ⟨59, _⟩ => ⟨S2x4096, .f32⟩
  | .hbm, ⟨60, _⟩ => ⟨S2x4096, .f32⟩
  | .hbm, ⟨61, _⟩ => ⟨S2x4096x1, .f32⟩
  | .hbm, ⟨62, _⟩ => ⟨S2x4096x8, .f32⟩
  | .hbm, ⟨63, _⟩ => ⟨S2x4096x8, .f32⟩
  | .hbm, ⟨64, _⟩ => ⟨S2x4096x8, .f32⟩
  | .hbm, ⟨65, _⟩ => ⟨S_, .f32⟩
  | .hbm, ⟨66, _⟩ => ⟨S2x4096, .f32⟩
  | .hbm, ⟨67, _⟩ => ⟨S2x4096x1, .f32⟩
  | .hbm, ⟨68, _⟩ => ⟨S2x4096x8, .f32⟩
  | .hbm, ⟨69, _⟩ => ⟨S2x4096x8, .f32⟩
  | _, _ => ⟨S2x4097x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_values : Ref sig .tc := ⟨.hbm, 54, rfl⟩
abbrev main_indices : Ref sig .tc := ⟨.hbm, 55, rfl⟩
abbrev main_cst_5 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== Proof.KI.Region0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! # The projection call

What one run of the projection body does to its blocks, for any contents of the arrays when the call starts, and the
proof data the launch asks for. The next-rows window (window 1) may hang over the end of the array; the body reads
only its first row, which is always inside. -/

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What stands in the part of a clipped buffer that no transfer fills. -/
def junk0 (w : Fin cfg0.W) : (cfg0.win w).block.Idx → Elt F (cfg0.win w).elt := fun _ => Classical.choice inferInstance

/-- A clipped window's buffer at point `t`: its block over the junk. -/
def buf0 (c : Dev nD) (w : Fin cfg0.W) (t : Fin cfg0.N) : (cfg0.win w).block.Idx → Elt F (cfg0.win w).elt :=
  (cfg0.win w).fill (cfg0.grid.coords t) (junk0 w) (blk0 V c w t)

/-! ## The parts of the blocks the body reads and writes -/

abbrev rowsHi : Rect S1x512x1024 := Rect.unit (s := S1x512x1024) ![0, 1, 0] S1x511x1024.size inb_S1x512x1024_S1x511x1024_0_1_0
abbrev rowNext : Rect S1x8x1024 := Rect.unit (s := S1x8x1024) ![0, 0, 0] S1x1x1024.size inb_S1x8x1024_S1x1x1024_0_0_0
abbrev matAll : Rect S1024x1024 := Rect.unit (s := S1024x1024) ![0, 0] S1024x1024.size inb_S1024x1024_S1024x1024_0_0
abbrev vecAll : Rect S1x1024 := Rect.unit (s := S1x1024) ![0, 0] S1x1024.size inb_S1x1024_S1x1024_0_0
abbrev blockAll : Rect S1x512x1024 := Rect.unit (s := S1x512x1024) ![0, 0, 0] S1x512x1024.size inb_S1x512x1024_S1x512x1024_0_0_0

/-- The block of normalised projections `a ↦ (a Wᵀ + b) / max ‖·‖ ε` as the first store writes it. -/
def projQ (x0 : Vec F S1x512x1024 .f32) (x1 : Vec F S1x8x1024 .f32) (w : Vec F S1024x1024 .f32) (b : Vec F S1x1024 .f32) : Vec F S1x512x1024 .f32 :=
  View.canon [⟨blockAll, k0_pay3 (View.ld x0 rowsHi) (View.ld x1 rowNext) (View.ld w matAll) (View.ld b vecAll)⟩]

/-- The same block as the second store writes it. -/
def projK (x0 : Vec F S1x512x1024 .f32) (x1 : Vec F S1x8x1024 .f32) (w : Vec F S1024x1024 .f32) (b : Vec F S1x1024 .f32) : Vec F S1x512x1024 .f32 :=
  View.canon [⟨blockAll, k0_pay1 (k0_pay4 (View.ld x0 rowsHi) (View.ld x1 rowNext) (View.ld w matAll) (View.ld b vecAll))
    (k0_pay5 (View.ld x0 rowsHi) (View.ld x1 rowNext) (View.ld w matAll) (View.ld b vecAll))⟩]

/-- One whole-block store covers the block. -/
theorem cover_block (p : Vec F S1x512x1024 .f32) (y : S1x512x1024.Idx) :
    ∃ pc ∈ ([⟨blockAll, p⟩] : List (View.Piece (Elt F) S1x512x1024 .f32)), y ∈ pc.1.set :=
  View.cover_of_tiled [⟨blockAll, p⟩] S1x512x1024.size (by rfl) y

/-! ## The body -/

set_option maxHeartbeats 1000000 in
/-- The projection body on whole buffers: the inputs stay, the two outputs become the two projections. -/
theorem body0 (c : Dev nD) (E : Set ℕ) (i : grid0.Coords) (arg2 : Memref sig .tc .vmem S1x512x1024 .f32) (harg2 : arg2.IsWhole) (arg3 : Memref sig .tc .vmem S1x8x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x1024 .f32) (harg9 : arg9.IsWhole)
    (x0 : Vec F S1x512x1024 .f32) (x1 : Vec F S1x8x1024 .f32) (x2 : Vec F S1024x1024 .f32) (x3 : Vec F S1x1024 .f32) (x4 : Vec F S1024x1024 .f32) (x5 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (projQ x0 x1 x2 x3) ∗ owns (c : Thread nD τ) arg9 fullShare (projK x0 x1 x4 x5)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9) K := by
  simp only [cc0__proj_kernel_eq_skeleton]; unfold cc0__proj_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_block _)
  iexists _; isplitr
  swap; · iexact H7
  ipureintro
  exact View.read_writes_eq_canon _ _ _ (cover_block _)

/-! ## The proof data -/

/-- The data of the call: the arrays as found, the inputs left in place, the outputs at the two projections. -/
def dat0 (c : Dev nD) : Dat τ (Elt F) Unit ℕ (Pipeline.UD sig nD τ) ℕ cfg0 c where
  A w := V c (Pipeline.arrRef spec0 w)
  after w t := match w with
    | ⟨0, _⟩ => buf0 V c 0 t
    | ⟨1, _⟩ => buf0 V c 1 t
    | ⟨2, _⟩ => blk0 V c 2 t
    | ⟨3, _⟩ => blk0 V c 3 t
    | ⟨4, _⟩ => blk0 V c 4 t
    | ⟨5, _⟩ => blk0 V c 5 t
    | ⟨6, _⟩ => projQ (buf0 V c 0 t) (buf0 V c 1 t) (blk0 V c 2 t) (blk0 V c 3 t)
    | ⟨7, _⟩ => projK (buf0 V c 0 t) (buf0 V c 1 t) (blk0 V c 4 t) (blk0 V c 5 t)
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = buf0 V c 0 t := by dsimp only [dat0]
theorem after0_1 (c : Dev nD) (t : Fin cfg0.N) : (dat0 V c).after 1 t = buf0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = projQ (buf0 V c 0 t) (buf0 V c 1 t) (blk0 V c 2 t) (blk0 V c 3 t) := by dsimp only [dat0]
theorem after0_7 (c : Dev nD) (t : Fin cfg0.N) : (dat0 V c).after 7 t = projK (buf0 V c 0 t) (buf0 V c 1 t) (blk0 V c 4 t) (blk0 V c 5 t) := by dsimp only [dat0]

/-! ## What the inputs' buffers hold when the body starts -/

theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A_eq0]; try rfl) t d).trans
    (by unfold Dat.fetched Dat.blockOf blk0; rw [A_eq0]; try rfl)
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [A_eq0]; try rfl) t d).trans
    (by unfold Dat.fetched Dat.blockOf blk0; rw [A_eq0]; try rfl)
theorem before0_4 (c : Dev nD) (t : Fin cfg0.N) (d) : (dat0 V c).before 4 t d = blk0 V c 4 t :=
  ((dat0 V c).before_in_eq_fetched 4 rfl (fun _ => rfl) (fun _ _ _ => rfl) (fun t => by rw [after0_4]; unfold Dat.blockOf blk0; rw [A_eq0]; try rfl) t d).trans
    (by unfold Dat.fetched Dat.blockOf blk0; rw [A_eq0]; try rfl)
theorem before0_5 (c : Dev nD) (t : Fin cfg0.N) (d) : (dat0 V c).before 5 t d = blk0 V c 5 t :=
  ((dat0 V c).before_in_eq_fetched 5 rfl (fun _ => rfl) (fun _ _ _ => rfl) (fun t => by rw [after0_5]; unfold Dat.blockOf blk0; rw [A_eq0]; try rfl) t d).trans
    (by unfold Dat.fetched Dat.blockOf blk0; rw [A_eq0]; try rfl)
/-- A clipped input's buffer holds its block over whatever was there. -/
theorem before0_0 (c : Dev nD) (t : Fin cfg0.N) (d) :
    (dat0 V c).before 0 t d = (cfg0.win 0).fill (cfg0.grid.coords t) d (blk0 V c 0 t) :=
  ((dat0 V c).before_in_eq_fetched 0 rfl (fun _ => rfl)
      (fun t t' h => funext fun a => congrArg (fun n => Pipeline.Clip.of n ((cfg0.win 0).size a) (S2x4097x1024.size a)) (congrFun h a))
      (fun t => by rw [after0_0]; unfold buf0; rw [Pipeline.Window.cut_fill]; unfold Dat.blockOf blk0; rw [A_eq0]; try rfl) t d).trans
    (by unfold Dat.fetched Dat.blockOf blk0; rw [A_eq0]; try rfl)
/-- A clipped input's buffer holds its block over whatever was there. -/
theorem before0_1 (c : Dev nD) (t : Fin cfg0.N) (d) :
    (dat0 V c).before 1 t d = (cfg0.win 1).fill (cfg0.grid.coords t) d (blk0 V c 1 t) :=
  ((dat0 V c).before_in_eq_fetched 1 rfl (fun _ => rfl)
      (fun t t' h => funext fun a => congrArg (fun n => Pipeline.Clip.of n ((cfg0.win 1).size a) (S2x4097x1024.size a)) (congrFun h a))
      (fun t => by rw [after0_1]; unfold buf0; rw [Pipeline.Window.cut_fill]; unfold Dat.blockOf blk0; rw [A_eq0]; try rfl) t d).trans
    (by unfold Dat.fetched Dat.blockOf blk0; rw [A_eq0]; try rfl)

/-! ## The rows the body reads are always filled -/

/-- No block of window 0 is cut. -/
theorem xsize0_0 : ∀ t : Fin cfg0.N, ∀ a, (cfg0.win 0).xsize (cfg0.grid.coords t) a = (cfg0.win 0).size a := by decide +kernel
/-- The first row of window 1's block is inside the array at every point. -/
theorem xsize0_1 : ∀ t : Fin cfg0.N, 1 ≤ (cfg0.win 1).xsize (cfg0.grid.coords t) 0 ∧ 1 ≤ (cfg0.win 1).xsize (cfg0.grid.coords t) 1
    ∧ (cfg0.win 1).xsize (cfg0.grid.coords t) 2 = 1024 := by decide +kernel

theorem fill0_0 (t : Fin cfg0.N) (d d' : (cfg0.win 0).block.Idx → Elt F (cfg0.win 0).elt) (g) :
    (cfg0.win 0).fill (cfg0.grid.coords t) d g = (cfg0.win 0).fill (cfg0.grid.coords t) d' g := by
  funext j
  have hm : (cfg0.win 0).moved (cfg0.grid.coords t) j = true :=
    ((cfg0.win 0).moved_iff _ j).mpr fun a => by rw [xsize0_0 t a]; exact (j a).isLt
  unfold Pipeline.Window.fill; rw [dif_pos hm, dif_pos hm]

/-- The next row is read the same whatever lies under the part of the buffer that no transfer fills. -/
theorem ld_next (t : Fin cfg0.N) (d d' : (cfg0.win 1).block.Idx → Elt F (cfg0.win 1).elt) (g) :
    View.ld (Val := Elt F) (S := S1x8x1024) (e' := .f32) ((cfg0.win 1).fill (cfg0.grid.coords t) d g) rowNext
      = View.ld (Val := Elt F) (S := S1x8x1024) (e' := .f32) ((cfg0.win 1).fill (cfg0.grid.coords t) d' g) rowNext := by
  funext j
  have hm : (cfg0.win 1).moved (cfg0.grid.coords t) (rowNext.idx j) = true :=
    ((cfg0.win 1).moved_iff _ _).mpr fun a => by
      obtain ⟨h0, h1, h2⟩ := xsize0_1 t
      match a with
      | ⟨0, _⟩ => exact lt_of_lt_of_le (show 0 + 1 * (j 0).val < 1 by have h : (j 0).val < 1 := (j 0).isLt; omega) h0
      | ⟨1, _⟩ => exact lt_of_lt_of_le (show 0 + 1 * (j 1).val < 1 by have h : (j 1).val < 1 := (j 1).isLt; omega) h1
      | ⟨2, _⟩ => exact lt_of_lt_of_le (show 0 + 1 * (j 2).val < 1024 by have h : (j 2).val < 1024 := (j 2).isLt; omega) h2.ge
  show Pipeline.Window.fill _ _ _ _ _ = Pipeline.Window.fill _ _ _ _ _
  unfold Pipeline.Window.fill; rw [dif_pos hm, dif_pos hm]

theorem projQ_fill (c : Dev nD) (t : Fin cfg0.N) (d0) (d1) (w : Vec F S1024x1024 .f32) (b : Vec F S1x1024 .f32) :
    projQ (F := F) ((cfg0.win 0).fill (cfg0.grid.coords t) d0 (blk0 V c 0 t)) ((cfg0.win 1).fill (cfg0.grid.coords t) d1 (blk0 V c 1 t)) w b = projQ (buf0 V c 0 t) (buf0 V c 1 t) w b := by
  unfold projQ buf0; rw [fill0_0 t d0 (junk0 0), ld_next t d1 (junk0 1)]
theorem projK_fill (c : Dev nD) (t : Fin cfg0.N) (d0) (d1) (w : Vec F S1024x1024 .f32) (b : Vec F S1x1024 .f32) :
    projK (F := F) ((cfg0.win 0).fill (cfg0.grid.coords t) d0 (blk0 V c 0 t)) ((cfg0.win 1).fill (cfg0.grid.coords t) d1 (blk0 V c 1 t)) w b = projK (buf0 V c 0 t) (buf0 V c 1 t) w b := by
  unfold projK buf0; rw [fill0_0 t d0 (junk0 0), ld_next t d1 (junk0 1)]

/-! ## The obligation at every point -/

/-- What the body is called with at point `t`. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))
/-- What it leaves: a clipped input only up to the part its transfers move. -/
def post0 (c : Dev nD) (t : Fin cfg0.N) : sProp 𝕄 :=
  iprop((dat0 V c).Φ t.succ ∗ (dat0 V c).owesAt () t.succ
    ∗ (∃ d, owns (c : Thread nD τ) (st0_0 t) fullShare ((cfg0.win 0).fill (cfg0.grid.coords t) d ((cfg0.win 0).cut (cfg0.grid.coords t) ((dat0 V c).after 0 t))))
    ∗ (∃ d, owns (c : Thread nD τ) (st0_1 t) fullShare ((cfg0.win 1).fill (cfg0.grid.coords t) d ((cfg0.win 1).cut (cfg0.grid.coords t) ((dat0 V c).after 1 t))))
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body0 c Set.univ (grid0.coords t) _ _ _ _ _ _ _ _ _ _ _ _ _ _ _ _ ((cfg0.win 0).fill (cfg0.grid.coords t) d0 (blk0 V c 0 t)) ((cfg0.win 1).fill (cfg0.grid.coords t) d1 (blk0 V c 1 t)) (blk0 V c 2 t) (blk0 V c 3 t) (blk0 V c 4 t) (blk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  rw [projQ_fill, projK_fill]
  iintro ⟨H0, H1, H2, H3, H4, H5, H6, H7⟩
  isplitl [HΦ]; · iexact HΦ
  isplitl [Ho]; · iexact Ho
  isplitl [H0]
  · iexists d0; unfold buf0; rw [Pipeline.Window.cut_fill]; iexact H0
  isplitl [H1]
  · iexists d1; unfold buf0; rw [Pipeline.Window.cut_fill]; iexact H1
  isplitl [H2]; · iexact H2
  isplitl [H3]; · iexact H3
  isplitl [H4]; · iexact H4
  isplitl [H5]; · iexact H5
  isplitl [H6]; · iexact H6
  iexact H7

theorem row0 (t : Fin cfg0.N) :
    defs₀ (F := F) .tc cfg0.body (cfg0.bodyArgs t (cfg0.slots t)) = bodyAt0 t := by
  unfold defs₀; rw [Defs.onTc_tc]

/-- The obligation of the projection call. -/
theorem obligation0 (c : Dev nD) : BodyObligationLoose (dat0 (F := F) V c) (defs₀ (F := F)) Variants.none () Set.univ := fun t => by
  rw [bigSep_W0, bigSep_W0, row0]
  exact triple_restated (sound0 V c t) rfl .rfl fun _ => .rfl

end Cert.KernelIdeal.Own

end
-- ==== Proof.KI.Select.lean ====
module

public import proofs.«01_k».proof.Proof.Gen.KernelIdeal.Skeleton

/-! # The selection rounds, uniformly

The routing body repeats one round eight times on a tile of 256 score rows: take each row's maximum, the lowest column
where it stands, and cover that entry. Here the round is written once, and the printed values of the body are shown to be
its iterates. -/

@[expose] public section

set_option maxRecDepth 16384

noncomputable section

namespace Cert.KernelIdeal.Own

open Idealize.ShloMosaic Idealize.ShloMosaic.TcCoe
open Cert.KernelIdeal.Gen

variable {F : FTy → Type} [FloatOps F] [Named F]

/-- Each row's maximum, as a column. -/
def rowMax (s : FVec F S256x4096 .f32) : FVec F S256x1 .f32 :=
  shapeCast S256x1 (multiReduction .maximumf [1] S256 s 0xFF800000#32 reduces_S256x4096_S256 (.inl rfl) rfl) shapeCasts_S256_S256x1

/-- The lowest column at which each row's maximum stands, as a float. -/
def rowPick (s : FVec F S256x4096 .f32) : FVec F S256x1 .f32 :=
  shapeCast S256x1 (multiReduction .minimumf [1] S256
    (select (cmpf .oeq s (broadcastTo S256x4096 (rowMax s) broadcasts_S256x1_S256x4096)) (k1_pay4 (F := F))
      (broadcast S256x4096 (Scalar.ofBits .f32 0x45800000#32))) 0x7F800000#32 reduces_S256x4096_S256 (.inl rfl) rfl) shapeCasts_S256_S256x1

/-- The tile with each row's picked entry covered. -/
def cover (s : FVec F S256x4096 .f32) : FVec F S256x4096 .f32 :=
  select (cmpf .oeq (k1_pay4 (F := F)) (broadcastTo S256x4096 (rowPick s) broadcasts_S256x1_S256x4096))
    (broadcast S256x4096 (Scalar.ofBits .f32 0xFF61B1E6#32)) s

/-- The tile after `n` rounds. -/
def rounds (s : FVec F S256x4096 .f32) : Nat → FVec F S256x4096 .f32
  | 0 => s
  | n + 1 => cover (rounds s n)

/-- Eight columns side by side. -/
def eight (f : Nat → FVec F S256x1 .f32) : FVec F S256x8 .f32 :=
  concatenate S256x8 1 [⟨S256x1, f 0⟩, ⟨S256x1, f 1⟩, ⟨S256x1, f 2⟩, ⟨S256x1, f 3⟩, ⟨S256x1, f 4⟩, ⟨S256x1, f 5⟩, ⟨S256x1, f 6⟩, ⟨S256x1, f 7⟩] concatenates_S256x1_S256x1_S256x1_S256x1_S256x1_S256x1_S256x1_S256x1_S256x8_d1

/-- The weights of eight values a row: `exp ((v - v₀) * 10)` over its row sum. -/
def soft (v : FVec F S256x8 .f32) : FVec F S1x256x8 .f32 :=
  have e : FVec F S256x8 .f32 := exp (mulf (subf v (broadcastTo S256x8 (extractStridedSlice S256x1 ![0, 0] v slices_S256x8_o0_0_S256x1) broadcasts_S256x1_S256x8))
    (broadcast S256x8 (Named.named κ "inv_temp" 0x41200000#32)))
  shapeCast S1x256x8 (divf e (broadcastTo S256x8 (shapeCast S256x1 (multiReduction .add [1] S256 e 0x00000000#32 reduces_S256x8_S256 (.inl rfl) rfl) shapeCasts_S256_S256x1) broadcasts_S256x1_S256x8)) shapeCasts_S256x8_S1x256x8

/-- The weights of a tile. -/
def tileW (s : FVec F S256x4096 .f32) : FVec F S1x256x8 .f32 := soft (eight fun n => rowMax (rounds s n))
/-- The routes of a tile. -/
def tileR (s : FVec F S256x4096 .f32) : IVec S1x256x8 32 :=
  shapeCast S1x256x8 (fptosi 32 (eight fun n => rowPick (rounds s n))) shapeCasts_S256x8_S1x256x8

/-! ## The printed values of the body, over what it loads -/

section Printed
variable (v3 : Vec F S1x512x1024 .f32) (v5 : Vec F S4096x1024 .f32) (v10 v125 : Vec F S256x4096 .f32)

/-- The weights the first half stores, as printed. -/
def rawWLo : FVec F S1x256x8 .f32 :=
  k1_pay30 k1_pay4 (k1_pay6 v3 v5 v10) (k1_pay9 v3 v5 v10) (k1_pay12 v3 v5 v10) (k1_pay15 k1_pay4 (k1_pay11 v3 v5 v10) (k1_pay12 v3 v5 v10)) (k1_pay18 k1_pay4 (k1_pay11 v3 v5 v10) (k1_pay12 v3 v5 v10)) (k1_pay20 k1_pay4 (k1_pay11 v3 v5 v10) (k1_pay12 v3 v5 v10)) (k1_pay21 k1_pay4 (k1_pay11 v3 v5 v10) (k1_pay12 v3 v5 v10)) (k1_pay23 k1_pay4 (k1_pay11 v3 v5 v10) (k1_pay12 v3 v5 v10)) k1_pay24
/-- The routes the first half stores, as printed. -/
def rawRLo : IVec S1x256x8 32 :=
  k1_pay31 k1_pay4 (k1_pay7 v3 v5 v10) (k1_pay10 v3 v5 v10) (k1_pay13 k1_pay4 (k1_pay11 v3 v5 v10) (k1_pay12 v3 v5 v10)) (k1_pay16 k1_pay4 (k1_pay11 v3 v5 v10) (k1_pay12 v3 v5 v10)) (k1_pay19 k1_pay4 (k1_pay11 v3 v5 v10) (k1_pay12 v3 v5 v10)) (k1_pay20 k1_pay4 (k1_pay11 v3 v5 v10) (k1_pay12 v3 v5 v10)) (k1_pay22 k1_pay4 (k1_pay11 v3 v5 v10) (k1_pay12 v3 v5 v10)) (k1_pay23 k1_pay4 (k1_pay11 v3 v5 v10) (k1_pay12 v3 v5 v10)) k1_pay24
/-- The weights the second half stores, as printed. -/
def rawWHi : FVec F S1x256x8 .f32 :=
  k1_pay1 (k1_pay34 (k1_pay32 (k1_pay3 v3) v5) v125) (k1_pay37 k1_pay4 (k1_pay32 (k1_pay3 v3) v5) v125) (k1_pay40 k1_pay4 (k1_pay32 (k1_pay3 v3) v5) v125) (k1_pay43 k1_pay4 (k1_pay32 (k1_pay3 v3) v5) v125) (k1_pay47 k1_pay4 (k1_pay42 k1_pay4 (k1_pay32 (k1_pay3 v3) v5) v125) (k1_pay44 k1_pay4 (k1_pay32 (k1_pay3 v3) v5) v125)) (k1_pay50 k1_pay4 (k1_pay42 k1_pay4 (k1_pay32 (k1_pay3 v3) v5) v125) (k1_pay44 k1_pay4 (k1_pay32 (k1_pay3 v3) v5) v125)) (k1_pay53 k1_pay4 (k1_pay42 k1_pay4 (k1_pay32 (k1_pay3 v3) v5) v125) (k1_pay44 k1_pay4 (k1_pay32 (k1_pay3 v3) v5) v125)) (k1_pay56 k1_pay4 (k1_pay42 k1_pay4 (k1_pay32 (k1_pay3 v3) v5) v125) (k1_pay44 k1_pay4 (k1_pay32 (k1_pay3 v3) v5) v125))
/-- The routes the second half stores, as printed. -/
def rawRHi : IVec S1x256x8 32 :=
  k1_pay2 k1_pay4 (k1_pay35 k1_pay4 (k1_pay32 (k1_pay3 v3) v5) v125) (k1_pay38 k1_pay4 (k1_pay32 (k1_pay3 v3) v5) v125) (k1_pay41 k1_pay4 (k1_pay32 (k1_pay3 v3) v5) v125) (k1_pay45 (k1_pay44 k1_pay4 (k1_pay32 (k1_pay3 v3) v5) v125)) (k1_pay48 k1_pay4 (k1_pay42 k1_pay4 (k1_pay32 (k1_pay3 v3) v5) v125) (k1_pay44 k1_pay4 (k1_pay32 (k1_pay3 v3) v5) v125)) (k1_pay51 k1_pay4 (k1_pay42 k1_pay4 (k1_pay32 (k1_pay3 v3) v5) v125) (k1_pay44 k1_pay4 (k1_pay32 (k1_pay3 v3) v5) v125)) (k1_pay54 k1_pay4 (k1_pay42 k1_pay4 (k1_pay32 (k1_pay3 v3) v5) v125) (k1_pay44 k1_pay4 (k1_pay32 (k1_pay3 v3) v5) v125)) (k1_pay55 k1_pay4 (k1_pay42 k1_pay4 (k1_pay32 (k1_pay3 v3) v5) v125) (k1_pay44 k1_pay4 (k1_pay32 (k1_pay3 v3) v5) v125)) (k1_pay57 k1_pay4 (k1_pay42 k1_pay4 (k1_pay32 (k1_pay3 v3) v5) v125) (k1_pay44 k1_pay4 (k1_pay32 (k1_pay3 v3) v5) v125))

/-- The score tile of the second half. -/
def tileHi : FVec F S256x4096 .f32 := k1_pay33 (k1_pay32 (k1_pay3 v3) v5) v125

set_option maxRecDepth 65536
theorem rawWLo_eq : rawWLo v3 v5 v10 = tileW (k1_pay5 v3 v5 v10) := rfl
theorem rawRLo_eq : rawRLo v3 v5 v10 = tileR (k1_pay5 v3 v5 v10) := rfl
theorem rawWHi_eq : rawWHi v3 v5 v125 = tileW (tileHi v3 v5 v125) := rfl
theorem rawRHi_eq : rawRHi v3 v5 v125 = tileR (tileHi v3 v5 v125) := rfl
end Printed

end Cert.KernelIdeal.Own

end
-- ==== Proof.KI.Route.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KI.Select
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.ReadBack

/-! # One run of the routing body

At a batch's first point the body fills its scratch with that batch's projected keys by its own transfer; at the others it
finds them there. Either way it leaves the same two blocks, a function of the query block, the bias block and the keys. -/

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]

local notation "𝕄" => MT nD τ sig Unit (Elt F) ℕ (Pipeline.UD sig nD τ) ℕ

abbrev qAll : Rect S1x512x1024 := Rect.unit (s := S1x512x1024) ![0, 0, 0] S1x512x1024.size inb_S1x512x1024_S1x512x1024_0_0_0
abbrev keysAll : Rect S4096x1024 := Rect.unit (s := S4096x1024) ![0, 0] S4096x1024.size inb_S4096x1024_S4096x1024_0_0
abbrev biasLo : Rect S512x4096 := Rect.unit (s := S512x4096) ![0, 0] S256x4096.size inb_S512x4096_S256x4096_0_0
abbrev biasHi : Rect S512x4096 := Rect.unit (s := S512x4096) ![256, 0] S256x4096.size inb_S512x4096_S256x4096_256_0
abbrev outLo : Rect S1x512x8 := Rect.unit (s := S1x512x8) ![0, 0, 0] S1x256x8.size inb_S1x512x8_S1x256x8_0_0_0
abbrev outHi : Rect S1x512x8 := Rect.unit (s := S1x512x8) ![0, 256, 0] S1x256x8.size inb_S1x512x8_S1x256x8_0_256_0

/-- The routes block, from the query block, the bias block and the keys. -/
def outR (x0 : Vec F S1x512x1024 .f32) (x1 : Vec F S512x4096 .f32) (ks : Vec F S4096x1024 .f32) : Vec F S1x512x8 .i32 :=
  View.canon [⟨outHi, rawRHi (View.ld x0 qAll) (View.ld ks keysAll) (View.ld x1 biasHi)⟩, ⟨outLo, rawRLo (View.ld x0 qAll) (View.ld ks keysAll) (View.ld x1 biasLo)⟩]
/-- The weights block. -/
def outW (x0 : Vec F S1x512x1024 .f32) (x1 : Vec F S512x4096 .f32) (ks : Vec F S4096x1024 .f32) : Vec F S1x512x8 .f32 :=
  View.canon [⟨outHi, rawWHi (View.ld x0 qAll) (View.ld ks keysAll) (View.ld x1 biasHi)⟩, ⟨outLo, rawWLo (View.ld x0 qAll) (View.ld ks keysAll) (View.ld x1 biasLo)⟩]

/-- The two half stores cover the block. -/
theorem cover_halves {e : EltTy} (p q : Vec F S1x256x8 e) (y : S1x512x8.Idx) :
    ∃ pc ∈ ([⟨outHi, p⟩, ⟨outLo, q⟩] : List (View.Piece (Elt F) S1x512x8 e)), y ∈ pc.1.set :=
  View.cover_of_tiled [⟨outHi, p⟩, ⟨outLo, q⟩] S1x256x8.size (by rfl) y

/-- The projected keys in HBM, and the batch slab the transfer of point `i` reads. -/
abbrev keysHbm : Memref sig .tc .hbm S2x4096x1024 .f32 := Memref.whole main_v2_1
abbrev KeysBuf (c : Dev nD) : Type := Buf (Elt F) (keysHbm.view.loc (c : Thread nD τ))
abbrev keysPt (c : Dev nD) (f : KeysBuf (F := F) c) : sProp 𝕄 := keysHbm.view.loc (c : Thread nD τ) ↦{fullShare} f
def slab (c : Dev nD) (f : KeysBuf (F := F) c) (i : grid1.Coords) (h : k1_cond1 i = 1#1) : Vec F S4096x1024 .f32 :=
  ((keysHbm.slice (Rect.unit (s := S2x4096x1024) (k1_off1 i) S1x4096x1024.size (k1_off1_inb i h)) (fun _ => rfl)).squeeze S4096x1024 squeezes_S1x4096x1024_S4096x1024).view.read (Elt F) f

/-- A load of the whole scratch after a transfer filled it reads what the transfer brought. -/
theorem readCov_filled (v : View sig .tc .vmem S4096x1024 .f32) (d : Vec F S4096x1024 .f32) :
    v.readCov (Val := Elt F) [⟨Rect.whole S4096x1024, d⟩] keysAll.toLoadRect = View.ld d keysAll := by
  exact View.readCov_fill v _ d [] keysAll (fun _ => rfl)

end Cert.KernelIdeal.Own

end
-- ==== Proof.KI.RunA.lean ====
module

public import proofs.«01_k».proof.Proof.KI.Route

/-! # The routing body at a batch's first point -/

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]

local notation "𝕄" => MT nD τ sig Unit (Elt F) ℕ (Pipeline.UD sig nD τ) ℕ

set_option maxHeartbeats 1000000 in
/-- The run that fills the scratch. -/
theorem body1_A (c : Dev nD) (i : grid1.Coords) (arg2 : Memref sig .tc .vmem S1x512x1024 .f32) (harg2 : arg2.IsWhole) (arg4 : Memref sig .tc .vmem S512x4096 .f32) (harg4 : arg4.IsWhole) (arg5 : Memref sig .tc .vmem S1x512x8 .i32) (harg5 : arg5.IsWhole) (arg6 : Memref sig .tc .vmem S1x512x8 .f32) (harg6 : arg6.IsWhole) (arg7 : Memref sig .tc .vmem S4096x1024 .f32) (harg7 : arg7.IsWhole) (hc : k1_cond1 i = 1#1)
    (x0 : Vec F S1x512x1024 .f32) (x1 : Vec F S512x4096 .f32) (fh : KeysBuf (F := F) c) (W : Waits sig Unit) (K : PUnit → sProp 𝕄) :
    iprop(owns (c : Thread nD τ) arg2 fullShare x0 ∗ owns (c : Thread nD τ) arg4 fullShare x1 ∗ (∃ d, owns (c : Thread nD τ) arg5 fullShare d) ∗ (∃ d, owns (c : Thread nD τ) arg6 fullShare d) ∗ (∃ d, owns (c : Thread nD τ) arg7 fullShare d) ∗ semVal ((c : Thread nD τ), SemLoc.dma 20) 0 ∗ keysPt c fh ∗ owes (c : Thread nD τ) 0 W
        ∗ (iprop(owns (c : Thread nD τ) arg2 fullShare x0 ∗ owns (c : Thread nD τ) arg4 fullShare x1 ∗ owns (c : Thread nD τ) arg5 fullShare (outR x0 x1 (slab c fh i hc)) ∗ owns (c : Thread nD τ) arg6 fullShare (outW x0 x1 (slab c fh i hc)) ∗ owns (c : Thread nD τ) arg7 fullShare (slab c fh i hc) ∗ semVal ((c : Thread nD τ), SemLoc.dma 20) 0 ∗ keysPt c fh ∗ (∃ W', owes (c : Thread nD τ) 0 W')) -∗ K ⟨⟩))
      ⊢ wp frame (wpE (defs₀ (F := F)) Variants.none c none) Set.univ (cc1__route_kernel i arg2 harg2 (Memref.whole main_v2_1) (Memref.isWhole_whole _) arg4 harg4 arg5 harg5 arg6 harg6 arg7 harg7 cc1_scratch1) K := by
  simp only [cc1__route_kernel_eq_skeleton]; unfold cc1__route_kernel_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%d2, %f2, -, H2⟩, ⟨%d3, %f3, -, H3⟩, ⟨%ds0, %fs0, -, HS0⟩, Hq0, Hh0, HW, Hk⟩
  subst hf0 hf1
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr
    swap; · iexact H2
    ipureintro
    refine (View.read_writes_eq_canon _ _ _ (cover_halves _ _)).trans ?_
    refine Eq.trans (b := View.canon [⟨outHi, rawRHi _ (arg7.view.readCov [⟨Rect.whole S4096x1024, slab c fh i hc⟩] keysAll.toLoadRect) _⟩, ⟨outLo, rawRLo _ (arg7.view.readCov [⟨Rect.whole S4096x1024, slab c fh i hc⟩] keysAll.toLoadRect) _⟩]) rfl ?_
    rw [readCov_filled]; rfl
  isplitl [H3]
  · iexists _; isplitr
    swap; · iexact H3
    ipureintro
    refine (View.read_writes_eq_canon _ _ _ (cover_halves _ _)).trans ?_
    refine Eq.trans (b := View.canon [⟨outHi, rawWHi _ (arg7.view.readCov [⟨Rect.whole S4096x1024, slab c fh i hc⟩] keysAll.toLoadRect) _⟩, ⟨outLo, rawWLo _ (arg7.view.readCov [⟨Rect.whole S4096x1024, slab c fh i hc⟩] keysAll.toLoadRect) _⟩]) rfl ?_
    rw [readCov_filled]; rfl
  isplitl [HS0]
  · iexists _; isplitr
    swap; · iexact HS0
    ipureintro
    exact View.read_writes_whole _ _ _
  isplitl [Hq0]; · iexact Hq0
  isplitl [Hh0]; · iexact Hh0
  iexists _; iexact HW

end Cert.KernelIdeal.Own

end
-- ==== Proof.KI.RunB.lean ====
module

public import proofs.«01_k».proof.Proof.KI.Route

/-! # The routing body at the other points -/

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]

local notation "𝕄" => MT nD τ sig Unit (Elt F) ℕ (Pipeline.UD sig nD τ) ℕ

set_option maxHeartbeats 1000000 in
/-- The run that finds the keys in the scratch. -/
theorem body1_B (c : Dev nD) (i : grid1.Coords) (arg2 : Memref sig .tc .vmem S1x512x1024 .f32) (harg2 : arg2.IsWhole) (arg4 : Memref sig .tc .vmem S512x4096 .f32) (harg4 : arg4.IsWhole) (arg5 : Memref sig .tc .vmem S1x512x8 .i32) (harg5 : arg5.IsWhole) (arg6 : Memref sig .tc .vmem S1x512x8 .f32) (harg6 : arg6.IsWhole) (arg7 : Memref sig .tc .vmem S4096x1024 .f32) (harg7 : arg7.IsWhole) (hc : ¬ k1_cond1 i = 1#1)
    (x0 : Vec F S1x512x1024 .f32) (x1 : Vec F S512x4096 .f32) (ks : Vec F S4096x1024 .f32) (fh : KeysBuf (F := F) c) (W : Waits sig Unit) (K : PUnit → sProp 𝕄) :
    iprop(owns (c : Thread nD τ) arg2 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare ks ∗ semVal ((c : Thread nD τ), SemLoc.dma 20) 0 ∗ keysPt c fh ∗ owes (c : Thread nD τ) 0 W
        ∗ (iprop(owns (c : Thread nD τ) arg2 fullShare x0 ∗ owns (c : Thread nD τ) arg4 fullShare x1 ∗ owns (c : Thread nD τ) arg5 fullShare (outR x0 x1 ks) ∗ owns (c : Thread nD τ) arg6 fullShare (outW x0 x1 ks) ∗ owns (c : Thread nD τ) arg7 fullShare ks ∗ semVal ((c : Thread nD τ), SemLoc.dma 20) 0 ∗ keysPt c fh ∗ (∃ W', owes (c : Thread nD τ) 0 W')) -∗ K ⟨⟩))
      ⊢ wp frame (wpE (defs₀ (F := F)) Variants.none c none) Set.univ (cc1__route_kernel i arg2 harg2 (Memref.whole main_v2_1) (Memref.isWhole_whole _) arg4 harg4 arg5 harg5 arg6 harg6 arg7 harg7 cc1_scratch1) K := by
  simp only [cc1__route_kernel_eq_skeleton]; unfold cc1__route_kernel_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%d2, %f2, -, H2⟩, ⟨%d3, %f3, -, H3⟩, ⟨%fs0, %hfs0, HS0⟩, Hq0, Hh0, HW, Hk⟩
  subst hf0 hf1 hfs0
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr
    swap; · iexact H2
    ipureintro
    refine (View.read_writes_eq_canon _ _ _ (cover_halves _ _)).trans (by rfl)
  isplitl [H3]
  · iexists _; isplitr
    swap; · iexact H3
    ipureintro
    refine (View.read_writes_eq_canon _ _ _ (cover_halves _ _)).trans (by rfl)
  isplitl [HS0]
  · iexists _; isplitr
    swap; · iexact HS0
    ipureintro
    rfl
  isplitl [Hq0]; · iexact Hq0
  isplitl [Hh0]; · iexact Hh0
  iexists _; iexact HW

end Cert.KernelIdeal.Own

end
-- ==== Proof.KI.Region1.lean ====
module

public import proofs.«01_k».proof.Proof.KI.RunA
public import proofs.«01_k».proof.Proof.KI.RunB
public import Idealize.ShloMosaic.Lib.ValueIdx

/-! # The routing call

The invariant between points: the scratch holds the projected keys of the running batch (anything before a batch's first
point), the generator register, the transfer's semaphore at zero and the projected keys in HBM as the call found them. -/

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]

local notation "𝕄" => MT nD τ sig Unit (Elt F) ℕ (Pipeline.UD sig nD τ) ℕ

section

variable (V : (c : Dev nD) → (b : Ref sig .tc) → Buf (Elt F) ((c : Thread nD τ).loc b))

/-- Window `w`'s block at point `t`, cut from what the call found in the window's array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Batch `n`'s slab of the projected keys. -/
def batchKeys (c : Dev nD) (f : KeysBuf (F := F) c) (n : ℕ) : Vec F S4096x1024 .f32 := fun j =>
  keysHbm.view.read (Elt F) f (ValueIdx.ix3 (⟨n % 2, Nat.mod_lt _ (by decide)⟩ : Fin 2) (j 0) (j 1))

/-- What the transfer brings at a batch's first point is that batch's slab. -/
theorem slab_eq (c : Dev nD) (f : KeysBuf (F := F) c) (i : grid1.Coords) (h : k1_cond1 i = 1#1) :
    slab c f i h = batchKeys c f (i 0).val := by
  funext j
  show keysHbm.view.read (Elt F) f ((Rect.unit (s := S2x4096x1024) (k1_off1 i) S1x4096x1024.size (k1_off1_inb i h)).emb (Shape.reshapeEquiv squeezes_S1x4096x1024_S4096x1024.numel_eq j)) = _
  unfold batchKeys
  refine congrArg _ ?_
  have e : Shape.reshapeEquiv squeezes_S1x4096x1024_S4096x1024.numel_eq j = Fin.cons ⟨0, Nat.one_pos⟩ j := Shape.reshapeEquiv_cons_one _ j
  rw [e]
  have hi : (i 0).val < 2 := (i 0).isLt
  funext a
  apply Fin.ext
  match a with
  | ⟨0, _⟩ =>
    show (BitVec.ofNat 32 (i 0).val).toNat + 1 * 0 = (i 0).val % 2
    rw [BitVec.toNat_ofNat, Nat.mod_eq_of_lt (by omega), Nat.mod_eq_of_lt hi]; rfl
  | ⟨1, _⟩ => show 0 + 1 * (j 0).val = (j 0).val; omega
  | ⟨2, _⟩ => show 0 + 1 * (j 1).val = (j 1).val; omega

theorem cond1_iff : ∀ t : Fin cfg1.N, k1_cond1 (grid1.coords t) = 1#1 ↔ t.val % 8 = 0 := fun t => by
  have ht : t.val < 16 := Nat.lt_of_lt_of_eq t.isLt N_1
  have e1 : (grid1.coords t 1).val = t.val / 1 % 8 := Pipeline.Grid.coords_val t 1 (by decide) rfl
  simp only [k1_cond1, e1]
  word_cmp

theorem batch1 (t : Fin cfg1.N) : (grid1.coords t 0).val = t.val / 8 := by
  have ht : t.val < 16 := Nat.lt_of_lt_of_eq t.isLt N_1
  have e : (grid1.coords t 0).val = t.val / 8 % 2 := Pipeline.Grid.coords_val t 0 (by decide) rfl
  omega

/-- The keys point `t` routes against. -/
def keys1 (c : Dev nD) (t : Fin cfg1.N) : Vec F S4096x1024 .f32 := batchKeys c (V c main_v2_1) (t.val / 8)

abbrev scr : Memref sig .tc .vmem S4096x1024 .f32 := Memref.whole cc1_scratch0
/-- The transfer's semaphore, as the kernel's own cell. -/
abbrev osem1 : Fin 1 → SemLoc sig := fun j => (![SemLoc.dma 20] : Fin 1 → SemLoc sig) j
theorem ownSem1 : Pipeline.OwnSemFacts spec1 osem1 := by decide
theorem ownSem1_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 20) 0) := by
  rw [Pipeline.ownSems0_eq_of_list c osem1 [0] (by decide) (by decide)]; rfl
/-- The operand left in HBM. -/
def H1 : Finset (Ref sig .tc) := {main_v2_1}
theorem H1_sub : H1 ⊆ Pipeline.restRefs sig spec1 := by decide
theorem hbm1_eq (c : Dev nD) :
    (bigSep H1 (fun b => ((c : Thread nD τ).loc b) ↦{fullShare} V c b) : sProp 𝕄) = iprop(keysPt c (V c main_v2_1)) := by
  rw [BI.bigSep_eq_bigSepL_of_eq [main_v2_1] (by decide) (by decide)]; rfl

/-- What the launch hands the call, conjunct by conjunct. -/
theorem given1_eq (c : Dev nD) :
    (Pipeline.ΦD osem1 spec1 H1 V c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scr fullShare d)) ∗ (∃ r, prngReg c r) ∗ iprop(semVal ((c : Thread nD τ), SemLoc.dma 20) 0) ∗ iprop(keysPt c (V c main_v2_1))) := by
  rw [Pipeline.ΦD_eq, scopedRest1_eq, ownSem1_eq, hbm1_eq]; simp only [scr, owns_whole]; try rfl

/-- The invariant before point `n`. -/
def inv1 (c : Dev nD) (n : ℕ) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, ⌜n % 8 ≠ 0 → d = batchKeys c (V c main_v2_1) (n / 8)⌝ ∗ owns (c : Thread nD τ) scr fullShare d)) ∗ (∃ r, prngReg c r) ∗ iprop(semVal ((c : Thread nD τ), SemLoc.dma 20) 0) ∗ iprop(keysPt c (V c main_v2_1)))

/-- The proof data of the routing call. -/
def dat1 (c : Dev nD) : Dat τ (Elt F) Unit ℕ (Pipeline.UD sig nD τ) ℕ cfg1 c where
  A w := V c (Pipeline.arrRef spec1 w)
  after w t := match w with
    | ⟨0, _⟩ => blk1 V c 0 t
    | ⟨1, _⟩ => blk1 V c 1 t
    | ⟨2, _⟩ => outR (blk1 V c 0 t) (blk1 V c 1 t) (keys1 V c t)
    | ⟨3, _⟩ => outW (blk1 V c 0 t) (blk1 V c 1 t) (keys1 V c t)
  Φ t := inv1 V c t.val
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = outR (blk1 V c 0 t) (blk1 V c 1 t) (keys1 V c t) := by dsimp only [dat1]
theorem after1_3 (c : Dev nD) (t : Fin cfg1.N) : (dat1 V c).after 3 t = outW (blk1 V c 0 t) (blk1 V c 1 t) (keys1 V c t) := by dsimp only [dat1]

theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A_eq1]; try rfl) t d).trans
    (by unfold Dat.fetched Dat.blockOf blk1; rw [A_eq1]; try rfl)

/-- What the body is called with, and what it returns. -/
def pre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d)))
def post1 (c : Dev nD) (t : Fin cfg1.N) : sProp 𝕄 :=
  iprop((dat1 V c).Φ t.succ ∗ (dat1 V c).owesAt () t.succ
    ∗ owns (c : Thread nD τ) (win1_0.stage (cfg1.slots t 0)) fullShare ((dat1 V c).after 0 t)
    ∗ owns (c : Thread nD τ) (win1_1.stage (cfg1.slots t 1)) fullShare ((dat1 V c).after 1 t)
    ∗ owns (c : Thread nD τ) (win1_2.stage (cfg1.slots t 2)) fullShare ((dat1 V c).after 2 t)
    ∗ owns (c : Thread nD τ) (win1_3.stage (cfg1.slots t 3)) fullShare ((dat1 V c).after 3 t))

/-- The body at any point. -/
theorem sound1 (c : Dev nD) (t : Fin cfg1.N) :
    pre1 V c t ⊢ wp frame (wpE (defs₀ (F := F)) Variants.none c none) Set.univ (bodyAt1 t) (fun _ => post1 V c t) := by
  have hN : t.val < 16 := lt_of_lt_of_eq t.isLt (show cfg1.N = 16 from N_1)
  unfold pre1 post1 bodyAt1
  simp only [before1_0, before1_1]
  rw [show (dat1 V c).Φ t.succ = inv1 V c (t.val + 1) from rfl, show (dat1 V c).Φ t.castSucc = inv1 V c t.val from rfl,
    after1_0, after1_1, after1_2, after1_3]
  unfold Dat.owesAt Pipeline.owesWithin inv1
  rw [show (dat1 V c).owed t.castSucc = 0 from rfl, show (dat1 V c).owed t.succ = 0 from rfl]
  iintro ⟨⟨⟨HR0, HR1, HR2, HR3, HR4, HR5, HR6, HR7, HR8, HR9, HR10, HR11, ⟨%ds, %hds, HS0⟩⟩, Hg, Hq0, Hh0⟩, ⟨%W, -, HW⟩, ⟨%d0, H0⟩, ⟨%d1, H1⟩, ⟨%d2, H2⟩, ⟨%d3, H3⟩⟩
  by_cases h0 : t.val % 8 = 0
  · have hkey : slab c (V c main_v2_1) (grid1.coords t) ((cond1_iff t).mpr h0) = keys1 V c t := by rw [slab_eq, batch1]; rfl
    rw [← hkey]
    iapply (body1_A c (grid1.coords t) _ _ _ _ _ _ _ _ _ _ ((cond1_iff t).mpr h0) (blk1 V c 0 t) (blk1 V c 1 t) (V c main_v2_1) W _)
    isplitl [H0]; · iexact H0
    isplitl [H1]; · iexact H1
    isplitl [H2]; · iexists _; iexact H2
    isplitl [H3]; · iexists _; iexact H3
    isplitl [HS0]; · iexists _; iexact HS0
    isplitl [Hq0]; · iexact Hq0
    isplitl [Hh0]; · iexact Hh0
    isplitl [HW]; · iexact HW
    iintro ⟨H0, H1, H2, H3, HS0, Hq0, Hh0, ⟨%W', HW'⟩⟩
    isplitl [HR0 HR1 HR2 HR3 HR4 HR5 HR6 HR7 HR8 HR9 HR10 HR11 HS0 Hg Hq0 Hh0]
    · isplitl [HR0 HR1 HR2 HR3 HR4 HR5 HR6 HR7 HR8 HR9 HR10 HR11 HS0]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        iexists _; isplitr
        swap; · iexact HS0
        ipureintro; exact fun hn => hkey.trans (congrArg (batchKeys c (V c main_v2_1)) (by omega))
      isplitl [Hg]; · iexact Hg
      isplitl [Hq0]; · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    iexact H3
  · have hkey : ds = keys1 V c t := hds h0
    rw [← hkey]
    iapply (body1_B c (grid1.coords t) _ _ _ _ _ _ _ _ _ _ (fun h => h0 ((cond1_iff t).mp h)) (blk1 V c 0 t) (blk1 V c 1 t) ds (V c main_v2_1) W _)
    isplitl [H0]; · iexact H0
    isplitl [H1]; · iexact H1
    isplitl [H2]; · iexists _; iexact H2
    isplitl [H3]; · iexists _; iexact H3
    isplitl [HS0]; · iexact HS0
    isplitl [Hq0]; · iexact Hq0
    isplitl [Hh0]; · iexact Hh0
    isplitl [HW]; · iexact HW
    iintro ⟨H0, H1, H2, H3, HS0, Hq0, Hh0, ⟨%W', HW'⟩⟩
    isplitl [HR0 HR1 HR2 HR3 HR4 HR5 HR6 HR7 HR8 HR9 HR10 HR11 HS0 Hg Hq0 Hh0]
    · isplitl [HR0 HR1 HR2 HR3 HR4 HR5 HR6 HR7 HR8 HR9 HR10 HR11 HS0]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        iexists _; isplitr
        swap; · iexact HS0
        ipureintro; exact fun hn => hkey.trans (congrArg (batchKeys c (V c main_v2_1)) (by omega))
      isplitl [Hg]; · iexact Hg
      isplitl [Hq0]; · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    iexact H3

theorem row1 (t : Fin cfg1.N) :
    defs₀ (F := F) .tc cfg1.body (cfg1.bodyArgs t (cfg1.slots t)) = bodyAt1 t := by
  unfold defs₀; rw [Defs.onTc_tc]

/-- The obligation of the routing call. -/
theorem obligation1 (c : Dev nD) : BodyObligation (dat1 (F := F) V c) (defs₀ (F := F)) Variants.none () Set.univ := fun t => by
  rw [bigSep_W1, bigSep_W1, row1]
  exact triple_restated (sound1 V c t) rfl .rfl fun _ => .rfl

/-- What the launch hands the call is the invariant before the first point, -/
theorem in1 (c : Dev nD) : Pipeline.ΦD osem1 spec1 H1 V c ⊢ (dat1 V c).Φ 0 := by
  rw [show (dat1 V c).Φ 0 = inv1 V c 0 from rfl, given1_eq]; unfold inv1
  iintro ⟨⟨HR0, HR1, HR2, HR3, HR4, HR5, HR6, HR7, HR8, HR9, HR10, HR11, ⟨%d, HS0⟩⟩, Hg, Hq0, Hh0⟩
  isplitl [HR0 HR1 HR2 HR3 HR4 HR5 HR6 HR7 HR8 HR9 HR10 HR11 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    iexists d; isplitr
    swap; · iexact HS0
    ipureintro; exact fun h => absurd rfl h
  isplitl [Hg]; · iexact Hg
  isplitl [Hq0]; · iexact Hq0
  iexact Hh0

/-- and the invariant after the last gives it back. -/
theorem out1 (c : Dev nD) : (dat1 V c).Φ (Fin.last cfg1.N) ⊢ Pipeline.ΦD osem1 spec1 H1 V c := by
  rw [show (dat1 V c).Φ (Fin.last cfg1.N) = inv1 V c cfg1.N from rfl, given1_eq]; unfold inv1
  iintro ⟨⟨HR0, HR1, HR2, HR3, HR4, HR5, HR6, HR7, HR8, HR9, HR10, HR11, ⟨%d, %hd, HS0⟩⟩, Hg, Hq0, Hh0⟩
  isplitl [HR0 HR1 HR2 HR3 HR4 HR5 HR6 HR7 HR8 HR9 HR10 HR11 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    iexists d; iexact HS0
  isplitl [Hg]; · iexact Hg
  isplitl [Hq0]; · iexact Hq0
  iexact Hh0

end

end Cert.KernelIdeal.Own

end
-- ==== Proof.KI.Launch.lean ====
module

public import proofs.«01_k».proof.Proof.KI.Region0
public import proofs.«01_k».proof.Proof.KI.Region1

/-! # The run of the whole program

Two reshapes, the projection call, the routing call: the contents of every buffer at each boundary, and what a run ends with. -/

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]

local notation "𝕄" => MT nD τ sig Unit (Elt F) ℕ (Pipeline.UD sig nD τ) ℕ

section

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5]

theorem hostOps0_fresh : (hostOps0 : List (HloOp τ sig (Elt F))).Forall fun op => op.fresh = ∅ := by
  simp only [List.Forall]; repeat' constructor
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

/-- The buffers at launch, after the reshapes, after the projection call and after the routing call. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference the projection call does not write keeps its contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference the routing call does not write keeps its contents across it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)
theorem W3_main_arg4 (c : Dev nD) : W3 m ρ c (Proc.devRef .tc main_arg4) = m ((c : Thread nD τ).loc main_arg4) :=
  W3_args m ρ c main_arg4 (by decide)
theorem W3_main_arg5 (c : Dev nD) : W3 m ρ c (Proc.devRef .tc main_arg5) = m ((c : Thread nD τ).loc main_arg5) :=
  W3_args m ρ c main_arg5 (by decide)

abbrev adm : (p : Fin 2) → (pcfgs (F := F) p).Adm := fun p => (cfgs p).toPCfg_adm
/-- Each call's proof data, at the contents it is entered with. -/
def pdats : (p : Fin 2) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides along beside the buffers. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- The projection call as a segment: its windows on the input share that array. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := obligation0 (V1 m ρ) c
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := Pipeline.UD sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The routing call as a segment: the keys in HBM and the transfer semaphore go through the invariant. -/
def reg1 : Pipeline.RegionSeg (pcfgs (F := F)) adm (pdats m ρ) () defs₀ 𝒱₀ L lv 1 where
  win := launch1.win.to₀
  block_pos := launch1.block_pos
  stage_whole := launch1.stage_whole
  K := Fin 1
  osem := osem1
  ho := ownSem1
  hbody c := (obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop((∃ r, prngReg c r) ∗ Pipeline.ownSems0 (Ix := Unit) (Name := ℕ) (U := Pipeline.UD sig nD τ) (Lvl := ℕ) (Val := Elt F) (τ := τ) osem1 c ∗ (bigSep H1 fun b => (((c : Thread nD τ)).loc b) ↦{fullShare} V2 m ρ c b))
  Y c := iprop((∃ r, prngReg c r) ∗ (bigSep H1 fun b => (((c : Thread nD τ)).loc b) ↦{fullShare} V2 m ρ c b))
  Z c := bigSep (Pipeline.restRefs sig spec1 \ H1) fun b => (((c : Thread nD τ)).loc b) ↦{fullShare} V2 m ρ c b
  hentry c := by
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    have hH : (Pipeline.unscopedRest (Ix := Unit) (Name := ℕ) (U := Pipeline.UD sig nD τ) (Lvl := ℕ) spec1 c (V2 m ρ c) : sProp 𝕄)
        = iprop((bigSep H1 fun b => (((c : Thread nD τ)).loc b) ↦{fullShare} V2 m ρ c b) ∗ (bigSep (Pipeline.restRefs sig spec1 \ H1) fun b => (((c : Thread nD τ)).loc b) ↦{fullShare} V2 m ρ c b)) := by
      unfold Pipeline.unscopedRest; exact BI.bigSep_sdiff_split H1_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    refine BIBase.Entails.trans ?_ (in1 (V2 m ρ) c)
    rw [Pipeline.ΦD_eq]
    iintro ⟨⟨Hp, Ho, HH⟩, -, Hr⟩
    isplitl [Hr]; · iexact Hr
    isplitl [Hp]; · iexact Hp
    isplitl [Ho]; · iexact Ho
    iexact HH
  hout c := by
    refine BIBase.Entails.trans (out1 (V2 m ρ) c) ?_
    rw [Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    have hH : (Pipeline.unscopedRest (Ix := Unit) (Name := ℕ) (U := Pipeline.UD sig nD τ) (Lvl := ℕ) spec1 c (V2 m ρ c) : sProp 𝕄)
        = iprop((bigSep H1 fun b => (((c : Thread nD τ)).loc b) ↦{fullShare} V2 m ρ c b) ∗ (bigSep (Pipeline.restRefs sig spec1 \ H1) fun b => (((c : Thread nD τ)).loc b) ↦{fullShare} V2 m ρ c b)) := by
      unfold Pipeline.unscopedRest; exact BI.bigSep_sdiff_split H1_sub
    iintro ⟨Ha, HO, ⟨HY, HH⟩, HR⟩
    ihave Hrest := (Entails.of_eq hH.symm) $$ [HH HR]
    · isplitl [HH]; · iexact HH
      iexact HR
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of its three segments. -/
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every run ends with the unscoped buffers at the last contents and every semaphore at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The frame: every run ends with the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c _ (mem_uc main_arg0 (by decide))).trans (W3_main_arg0 m ρ c), (h.1 c _ (mem_uc main_arg1 (by decide))).trans (W3_main_arg1 m ρ c), (h.1 c _ (mem_uc main_arg2 (by decide))).trans (W3_main_arg2 m ρ c), (h.1 c _ (mem_uc main_arg3 (by decide))).trans (W3_main_arg3 m ρ c), (h.1 c _ (mem_uc main_arg4 (by decide))).trans (W3_main_arg4 m ρ c), (h.1 c _ (mem_uc main_arg5 (by decide))).trans (W3_main_arg5 m ρ c)⟩, h.2⟩) (run_all m ρ)

/-- The run's results: the routes and the weights as the routing call's write-backs leave them. -/
theorem run_values : θ_run defs (onTc (τ := τ) (main (F := F))) ⟨m, fun _ => 0, ρ⟩ (fun r => ∀ c : Dev nD,
      r.2.mem ((c.tc : Thread nD τ).loc main_v3_0) = (dat1 (V2 m ρ) c).arrAt 2 cfg1.N
      ∧ r.2.mem ((c.tc : Thread nD τ).loc main_v3_1) = (dat1 (V2 m ρ) c).arrAt 3 cfg1.N) :=
  (θ_run defs _ _).mono (fun r h c => ⟨(h.1 c _ (mem_uc main_v3_0 (by decide))).trans (W3_arr m ρ c 2), (h.1 c _ (mem_uc main_v3_1 (by decide))).trans (W3_arr m ρ c 3)⟩) (run_all m ρ)

end

end Cert.KernelIdeal.Own

end
-- ==== Proof.Val.Bounds.lean ====
module

public import Idealize.ShloMosaic.PureOps.Ideal.Laws

/-! # Bounds on normalised rows and on their products

A row divided by the greater of its length and a positive number has entries between -1 and 1, whatever its entries are:
an infinite entry makes the length infinite, and division by that gives 0. Products of such entries, summed over `n` places,
lie between `-n` and `n`. -/

@[expose] public section

noncomputable section

namespace Cert.Val

open Idealize.ShloMosaic

/-- Between `-a` and `a`, as a real. -/
def Within (a : ℝ) (x : EReal) : Prop := ∃ r : ℝ, x = (r : EReal) ∧ |r| ≤ a

theorem Within.mul {x y : EReal} (hx : Within 1 x) (hy : Within 1 y) : Within 1 (x * y) := by
  obtain ⟨a, rfl, ha⟩ := hx
  obtain ⟨b, rfl, hb⟩ := hy
  exact ⟨a * b, (EReal.coe_mul a b).symm, by rw [abs_mul]; exact mul_le_one₀ ha (abs_nonneg b) hb⟩

theorem Within.sum {ι : Type} (A : Finset ι) (f : ι → EReal) (h : ∀ i ∈ A, Within 1 (f i)) : Within A.card (∑ i ∈ A, f i) := by
  classical
  induction A using Finset.induction_on with
  | empty => exact ⟨0, by simp, by simp⟩
  | insert a A ha ih =>
    obtain ⟨x, hx, bx⟩ := h a (Finset.mem_insert_self a A)
    obtain ⟨y, hy, by'⟩ := ih fun i hi => h i (Finset.mem_insert_of_mem hi)
    refine ⟨x + y, by rw [Finset.sum_insert ha, hx, hy, EReal.coe_add], ?_⟩
    rw [Finset.card_insert_of_notMem ha]
    push_cast
    exact (abs_add_le x y).trans (by linarith)

/-- The product of two rows within 1 over `n` places. -/
theorem Within.dot {n : Nat} {q k : Fin n → EReal} (hq : ∀ d, Within 1 (q d)) (hk : ∀ d, Within 1 (k d)) :
    Within n (∑ d, q d * k d) := by
  have := Within.sum Finset.univ (fun d => q d * k d) fun d _ => (hq d).mul (hk d)
  rwa [Finset.card_univ, Fintype.card_fin] at this

/-- A row's entry over the greater of the row's length and `ε`. -/
def unit {n : Nat} (ε : EReal) (v : Fin n → EReal) (d : Fin n) : EReal :=
  Ideal.div (v d) (max (Ideal.sqrt (∑ k, v k * v k)) ε)

theorem sq_nonneg (x : EReal) : 0 ≤ x * x := by
  induction x with
  | bot => simp
  | top => simp
  | coe r => rw [← EReal.coe_mul]; exact EReal.coe_nonneg.2 (mul_self_nonneg r)

theorem unit_within {n : Nat} (ε : ℝ) (hε : 0 < ε) (v : Fin n → EReal) (d : Fin n) : Within 1 (unit (ε : EReal) v d) := by
  unfold unit
  have hS : (0 : EReal) ≤ ∑ k, v k * v k := Finset.sum_nonneg fun k _ => sq_nonneg (v k)
  have hd : v d * v d ≤ ∑ k, v k * v k := Finset.single_le_sum (fun k _ => sq_nonneg (v k)) (Finset.mem_univ d)
  generalize (∑ k, v k * v k) = S at hS hd
  induction S with
  | bot => simp at hS
  | top =>
    refine ⟨0, ?_, by simp⟩
    rw [Ideal.sqrt_top, max_eq_left le_top, Ideal.div, if_neg (by simp)]
    simp
  | coe s =>
    have hs : 0 ≤ s := EReal.coe_nonneg.1 hS
    obtain ⟨r, hr⟩ : ∃ r : ℝ, v d = (r : EReal) := by
      generalize v d = x at hd
      induction x with
      | bot => simp at hd
      | top => simp at hd
      | coe r => exact ⟨r, rfl⟩
    rw [hr] at hd ⊢
    rw [← EReal.coe_mul, EReal.coe_le_coe_iff] at hd
    have hm : max (Ideal.sqrt (s : EReal)) (ε : EReal) = ((max (Real.sqrt s) ε : ℝ) : EReal) := by
      rw [Ideal.sqrt_coe, if_neg (not_lt.2 hs)]; exact (EReal.coe_strictMono.monotone.map_max).symm
    have hpos : 0 < max (Real.sqrt s) ε := lt_max_of_lt_right hε
    rw [hm, Ideal.div_coe hpos.ne', ← EReal.coe_mul]
    refine ⟨_, rfl, ?_⟩
    rw [mul_one_div, abs_div, abs_of_pos hpos, div_le_one hpos]
    exact (Real.abs_le_sqrt (by rw [sq]; exact hd)).trans (le_max_left _ _)

/-- A difference, scaled by a nonnegative real, is the difference of the scaled. -/
theorem sub_mul_coe (a b : EReal) (c : ℝ) (hc : 0 < c) : (a - b) * (c : EReal) = a * (c : EReal) - b * (c : EReal) := by
  rw [sub_eq_add_neg, sub_eq_add_neg, EReal.right_distrib_of_nonneg_of_ne_top (EReal.coe_nonneg.2 hc.le) (EReal.coe_ne_top c), EReal.neg_mul]

/-- Scaling by a positive real keeps the order. -/
theorem mul_coe_lt_iff (a b : EReal) (c : ℝ) (hc : 0 < c) : a * (c : EReal) < b * (c : EReal) ↔ a < b := by
  have hm : ∀ x y : EReal, x ≤ y → x * (c : EReal) ≤ y * (c : EReal) := fun x y h =>
    mul_le_mul_of_nonneg_right h (EReal.coe_nonneg.2 hc.le)
  have hinv : ∀ x : EReal, x * (c : EReal) * ((c⁻¹ : ℝ) : EReal) = x := fun x => by
    rw [mul_assoc, ← EReal.coe_mul, mul_inv_cancel₀ hc.ne', EReal.coe_one, mul_one]
  rw [← not_le, ← not_le, not_iff_not]
  refine ⟨fun h => ?_, hm _ _⟩
  rw [← hinv a, ← hinv b]
  exact mul_le_mul_of_nonneg_right h (EReal.coe_nonneg.2 (inv_pos.2 hc).le)

end Cert.Val

end
-- ==== Proof.Val.Order.lean ====
module

public import Idealize.ShloMosaic.Lib.SortFacts
public import Mathlib.Data.EReal.Basic

/-! # Leading positions of a row

A row of extended reals, its positions ranked by the greater entry first and, at equal entries, by the lower position
first. A list of positions *leads* when each comes before every position not listed earlier. Such a list is unique, and
the stable sort's first positions are one. -/

@[expose] public section

namespace Cert.Val

open Idealize.ShloMosaic

variable {n : Nat}

/-- `x` comes before `y`: its entry is greater, or the entries are equal and `x` is the lower position. -/
def Before (key : Fin n → EReal) (x y : Fin n) : Prop := key y < key x ∨ (key y = key x ∧ x < y)

theorem Before.asymm {key : Fin n → EReal} {x y : Fin n} (h : Before key x y) (h' : Before key y x) : False := by
  rcases h with h | ⟨e, h⟩ <;> rcases h' with h' | ⟨e', h'⟩
  · exact absurd h (not_lt.2 h'.le)
  · exact absurd e' (ne_of_gt h)
  · exact absurd e (ne_of_gt h')
  · exact absurd h (not_lt.2 h'.le)

theorem Before.trans {key : Fin n → EReal} {x y z : Fin n} (h : Before key x y) (h' : Before key y z) : Before key x z := by
  rcases h with h | ⟨e, h⟩ <;> rcases h' with h' | ⟨e', h'⟩
  · exact .inl (h'.trans h)
  · exact .inl (e' ▸ h)
  · exact .inl (e ▸ h')
  · exact .inr ⟨e'.trans e, h.trans h'⟩

/-- The positions listed before the `k`-th. -/
def listed (t : Nat → Fin n) (k : Nat) : Finset (Fin n) := (Finset.range k).image t

theorem mem_listed {t : Nat → Fin n} {k : Nat} {j : Fin n} : j ∈ listed t k ↔ ∃ i < k, t i = j := by
  simp [listed]

theorem listed_succ (t : Nat → Fin n) (k : Nat) : listed t (k + 1) = insert (t k) (listed t k) := by
  simp [listed, Finset.range_add_one, Finset.image_insert]

/-- The first `m` positions of `t` lead: each comes before every other position not listed earlier. -/
def Leads (key : Fin n → EReal) (m : Nat) (t : Nat → Fin n) : Prop :=
  ∀ k < m, t k ∉ listed t k ∧ ∀ j, j ∉ listed t k → j ≠ t k → Before key (t k) j

/-- Leading positions are unique. -/
theorem Leads.unique {key : Fin n → EReal} {m : Nat} {t t' : Nat → Fin n} (h : Leads key m t) (h' : Leads key m t') :
    ∀ k < m, t k = t' k := by
  intro k
  induction k using Nat.strong_induction_on with
  | _ k ih =>
    intro hk
    have e : listed t k = listed t' k := Finset.image_congr fun i hi => by
      have := Finset.mem_range.1 (Finset.mem_coe.1 hi)
      exact ih i this (this.trans hk)
    by_contra hne
    exact ((h k hk).2 (t' k) (e ▸ (h' k hk).1) (Ne.symm hne)).asymm ((h' k hk).2 (t k) (e ▸ (h k hk).1) hne)

/-- The first leading position comes before or is every later one, so its entry is the greatest of the list's. -/
theorem Leads.first_ge {key : Fin n → EReal} {m : Nat} {t : Nat → Fin n} (h : Leads key m t) {k : Nat} (hk : k < m) :
    key (t k) ≤ key (t 0) := by
  by_cases e : t k = t 0
  · rw [e]
  · rcases (h 0 (by omega)).2 (t k) (by simp [listed]) e with h | ⟨h, -⟩
    · exact h.le
    · exact h.le

section Sorted
variable (key : Fin n → EReal) (R : Fin n → Fin n → Bool) (hR : ∀ a b, R a b = true ↔ key b < key a)
include hR

theorem insert_before (a : Fin n) (l : List (Fin n)) (ha : ∀ b ∈ l, a < b) (hl : l.Pairwise (Before key)) :
    (insertBefore R a l).Pairwise (Before key) := by
  induction l with
  | nil => exact List.pairwise_singleton _ _
  | cons b l ih =>
    rw [List.pairwise_cons] at hl
    unfold insertBefore
    split
    · rename_i h
      refine List.pairwise_cons.2 ⟨fun c hc => ?_, ih (fun c hc => ha c (List.mem_cons_of_mem _ hc)) hl.2⟩
      rcases List.mem_cons.1 ((perm_insertBefore R a l).mem_iff.1 hc) with rfl | hc'
      · exact .inl ((hR _ _).1 h)
      · exact hl.1 c hc'
    · rename_i h
      have hab : Before key a b := by
        rcases lt_or_eq_of_le (not_lt.1 fun h' => h ((hR b a).2 h')) with h' | h'
        · exact .inl h'
        · exact .inr ⟨h', ha b List.mem_cons_self⟩
      refine List.pairwise_cons.2 ⟨fun c hc => ?_, List.pairwise_cons.2 hl⟩
      rcases List.mem_cons.1 hc with rfl | hc'
      · exact hab
      · exact hab.trans (hl.1 c hc')

theorem sort_before (l : List (Fin n)) (hl : l.Pairwise (· < ·)) : (stableSort R l).Pairwise (Before key) := by
  induction l with
  | nil => exact List.Pairwise.nil
  | cons a l ih =>
    rw [List.pairwise_cons] at hl
    unfold stableSort
    exact insert_before key R hR a _ (fun b hb => hl.1 b ((perm_stableSort R l).mem_iff.1 hb)) (ih hl.2)

theorem sortedFrom_before (i j : Fin n) (h : i < j) : Before key (sortedFrom R i) (sortedFrom R j) := by
  have hp := List.pairwise_iff_get.1 (sort_before key R hR (List.finRange n) (List.pairwise_lt_finRange n))
  unfold sortedFrom
  exact hp (i.cast (length_sortPositions n R).symm) (j.cast (length_sortPositions n R).symm) h

/-- The positions a stable descending sort puts first lead. -/
theorem sortedFrom_leads (hn : 0 < n) :
    Leads key n fun k => if h : k < n then sortedFrom R ⟨k, h⟩ else ⟨0, hn⟩ := by
  intro k hk
  refine ⟨fun hm => ?_, fun j hj hne => ?_⟩
  · obtain ⟨i, hi, e⟩ := mem_listed.1 hm
    beta_reduce at e
    rw [dif_pos hk, dif_pos (hi.trans hk)] at e
    have := congrArg Fin.val (sortedFrom_injective R e)
    simp only at this; omega
  · obtain ⟨i, rfl⟩ := sortedFrom_surjective R j
    beta_reduce at hne ⊢
    rw [dif_pos hk] at hne ⊢
    refine sortedFrom_before key R hR _ _ ?_
    rcases lt_trichotomy i.val k with h | h | h
    · exact absurd (mem_listed.2 ⟨i.val, h, dif_pos i.isLt⟩) hj
    · exact absurd (congrArg (sortedFrom R) (Fin.ext h)) hne
    · exact h
end Sorted

end Cert.Val

end
-- ==== Proof.Val.Rounds.lean ====
module

public import proofs.«01_k».proof.Proof.Val.Order

/-! # Rounds of maximum, lowest position, cover

One row under the rounds: take the greatest entry, the lowest position where it stands (as a number), put a covering value
there. While enough entries stay above the covering value, round `k` finds the `k`-th leading position. -/

@[expose] public section

noncomputable section

namespace Cert.Val

variable {n : Nat}

/-- The greatest entry. -/
def greatest (s : Fin n → EReal) : EReal := (Finset.univ : Finset (Fin n)).fold max ⊥ s

/-- The lowest position of the greatest entry, as a number (`top` where an entry is not the greatest). -/
def lowest (top : EReal) (s : Fin n → EReal) : EReal :=
  (Finset.univ : Finset (Fin n)).fold min ⊤ fun j => if s j = greatest s then ((j.val : ℝ) : EReal) else top

/-- The row with the found position covered by `c`. -/
def covered (top c : EReal) (s : Fin n → EReal) : Fin n → EReal :=
  fun j => if ((j.val : ℝ) : EReal) = lowest top s then c else s j

/-- The row after `k` rounds. -/
def after (top c : EReal) (s : Fin n → EReal) : Nat → Fin n → EReal
  | 0 => s
  | k + 1 => covered top c (after top c s k)

theorem le_greatest (s : Fin n → EReal) (j : Fin n) : s j ≤ greatest s :=
  (Finset.le_fold_max _).2 (.inr ⟨j, Finset.mem_univ j, le_rfl⟩)

theorem greatest_mem (hn : 0 < n) (s : Fin n → EReal) : ∃ j, s j = greatest s := by
  obtain ⟨j, -, hj⟩ := Finset.exists_max_image Finset.univ s ⟨⟨0, hn⟩, Finset.mem_univ _⟩
  exact ⟨j, le_antisymm (le_greatest s j) ((Finset.fold_max_le _).2 ⟨bot_le, fun i hi => hj i hi⟩)⟩

theorem cast_inj (i j : Fin n) : ((i.val : ℝ) : EReal) = ((j.val : ℝ) : EReal) ↔ i = j := by
  rw [EReal.coe_eq_coe_iff, Nat.cast_inj, Fin.val_inj]

theorem cast_le (i j : Fin n) : ((i.val : ℝ) : EReal) ≤ ((j.val : ℝ) : EReal) ↔ i ≤ j := by
  rw [EReal.coe_le_coe_iff, Nat.cast_le, Fin.val_fin_le]

/-- A round finds a position: its number is what the round names, its entry is the greatest, and it comes before every other. -/
theorem exists_found (hn : 0 < n) (top : EReal) (htop : ((n : ℝ) : EReal) ≤ top) (s : Fin n → EReal) :
    ∃ t : Fin n, lowest top s = ((t.val : ℝ) : EReal) ∧ s t = greatest s ∧ ∀ j, j ≠ t → Before s t j := by
  classical
  obtain ⟨j₀, h₀⟩ := greatest_mem hn s
  let A : Finset (Fin n) := Finset.univ.filter fun j => s j = greatest s
  have hA : A.Nonempty := ⟨j₀, by simp [A, h₀]⟩
  let t := A.min' hA
  have ht : s t = greatest s := (Finset.mem_filter.1 (A.min'_mem hA)).2
  have hmin : ∀ j, s j = greatest s → t ≤ j := fun j hj => A.min'_le j (by simp [A, hj])
  have hlt : ((t.val : ℝ) : EReal) ≤ top := le_trans (by rw [EReal.coe_le_coe_iff, Nat.cast_le]; exact t.isLt.le) htop
  refine ⟨t, le_antisymm ?_ ?_, ht, fun j hj => ?_⟩
  · exact (Finset.fold_min_le _).2 (.inr ⟨t, Finset.mem_univ t, by rw [if_pos ht]⟩)
  · refine (Finset.le_fold_min _).2 ⟨le_top, fun j _ => ?_⟩
    split
    · exact (cast_le t j).2 (hmin j ‹_›)
    · exact hlt
  · rcases lt_or_eq_of_le (ht ▸ le_greatest s j : s j ≤ s t) with h | h
    · exact .inl h
    · exact .inr ⟨h, lt_of_le_of_ne (hmin j (h.trans ht)) (Ne.symm hj)⟩

section Run
variable (hn : 0 < n) (top c : EReal) (htop : ((n : ℝ) : EReal) ≤ top) (s : Fin n → EReal)

/-- The position round `k` finds. -/
def found (k : Nat) : Fin n := (exists_found hn top htop (after top c s k)).choose

theorem lowest_after (k : Nat) : lowest top (after top c s k) = (((found hn top c htop s k).val : ℝ) : EReal) :=
  (exists_found hn top htop (after top c s k)).choose_spec.1

theorem greatest_after (k : Nat) : after top c s k (found hn top c htop s k) = greatest (after top c s k) :=
  (exists_found hn top htop (after top c s k)).choose_spec.2.1

theorem before_after (k : Nat) (j : Fin n) (h : j ≠ found hn top c htop s k) : Before (after top c s k) (found hn top c htop s k) j :=
  (exists_found hn top htop (after top c s k)).choose_spec.2.2 j h

/-- After `k` rounds exactly the found positions are covered. -/
theorem after_eq (k : Nat) (j : Fin n) : after top c s k j = if j ∈ listed (found hn top c htop s) k then c else s j := by
  induction k with
  | zero => simp [after, listed]
  | succ k ih =>
    show covered top c (after top c s k) j = _
    unfold covered
    rw [lowest_after hn top c htop s k, ih, listed_succ]
    by_cases h : j = found hn top c htop s k
    · simp [h]
    · rw [if_neg (fun e => h ((cast_inj _ _).1 e))]
      simp [Finset.mem_insert, h]

variable (p : Fin n) (B : EReal) (hc : c < B) (hp : s p < B) (hB : ∀ j, j ≠ p → B ≤ s j) {m : Nat} (hm : m + 1 ≤ n)
include hc hp hB hm

/-- While a position other than `p` is left, a round finds an uncovered one other than `p`. -/
theorem found_new {k : Nat} (hk : k < m) :
    found hn top c htop s k ∉ listed (found hn top c htop s) k ∧ found hn top c htop s k ≠ p := by
  classical
  set t := found hn top c htop s with ht
  obtain ⟨j, hj⟩ : ∃ j, j ∉ insert p (listed t k) := by
    by_contra hne
    push Not at hne
    have h1 : (insert p (listed t k)).card ≤ k + 1 :=
      (Finset.card_insert_le _ _).trans (Nat.succ_le_succ (Finset.card_image_le.trans (Finset.card_range k).le))
    have h2 : (Finset.univ : Finset (Fin n)).card ≤ (insert p (listed t k)).card := Finset.card_le_card fun j _ => hne j
    rw [Finset.card_univ, Fintype.card_fin] at h2
    omega
  rw [Finset.mem_insert, not_or] at hj
  have hge : B ≤ after top c s k (t k) := by
    rw [greatest_after hn top c htop s k]
    refine le_trans ?_ (le_greatest _ j)
    rw [after_eq hn top c htop s k j, if_neg hj.2]
    exact hB j hj.1
  rw [after_eq hn top c htop s k] at hge
  refine ⟨fun h => ?_, fun h => ?_⟩
  · rw [if_pos h] at hge; exact absurd hc (not_lt.2 hge)
  · split at hge
    · exact absurd hc (not_lt.2 hge)
    · exact absurd (h ▸ hp) (not_lt.2 hge)

/-- The found positions lead, and what each round takes is the row's own entry there. -/
theorem found_leads : Leads s m (found hn top c htop s) := by
  intro k hk
  have hnew := (found_new hn top c htop s p B hc hp hB hm hk).1
  refine ⟨hnew, fun j hj hne => ?_⟩
  have := before_after hn top c htop s k j hne
  unfold Before at this ⊢
  rwa [after_eq hn top c htop s k, after_eq hn top c htop s k, if_neg hnew, if_neg hj] at this

theorem greatest_eq {k : Nat} (hk : k < m) : greatest (after top c s k) = s (found hn top c htop s k) := by
  rw [← greatest_after hn top c htop s k, after_eq hn top c htop s k,
    if_neg (found_new hn top c htop s p B hc hp hB hm hk).1]
end Run

/-- Leading positions that avoid `p` lead under any keys that put `p` last and order the others alike. -/
theorem Leads.transfer {s r : Fin n → EReal} {m : Nat} {t : Nat → Fin n} (h : Leads s m t) (p : Fin n)
    (hp : ∀ k < m, t k ≠ p) (hlast : ∀ j, j ≠ p → r p < r j) (hord : ∀ i j, i ≠ p → j ≠ p → (r i < r j ↔ s i < s j)) :
    Leads r m t := by
  intro k hk
  refine ⟨(h k hk).1, fun j hj hne => ?_⟩
  by_cases e : j = p
  · subst e; exact .inl (hlast _ (hp k hk))
  rcases (h k hk).2 j hj hne with h' | ⟨h', hl⟩
  · exact .inl ((hord _ _ e (hp k hk)).2 h')
  · refine .inr ⟨le_antisymm (not_lt.1 fun h2 => ?_) (not_lt.1 fun h2 => ?_), hl⟩
    · exact absurd ((hord _ _ (hp k hk) e).1 h2) (by rw [h']; exact lt_irrefl _)
    · exact absurd ((hord _ _ e (hp k hk)).1 h2) (by rw [h']; exact lt_irrefl _)

end Cert.Val

end
-- ==== Proof.Val.Tile.lean ====
module

public import proofs.«01_k».proof.Proof.KI.Select
public import proofs.«01_k».proof.Proof.Val.Rounds
public import Idealize.ShloMosaic.Lib.Pointwise

/-! # The rounds of a tile, row by row

At the extended reals a tile's rounds act on each row by itself: the row's greatest entry, its lowest position, the row
covered there. -/

@[expose] public section

set_option maxRecDepth 16384

noncomputable section

namespace Cert.Val

open Idealize.ShloMosaic Idealize.ShloMosaic.TcCoe
open Cert.KernelIdeal Cert.KernelIdeal.Gen Cert.KernelIdeal.Own

/-- Row `i` of a tile. -/
def row (s : FVec Ideal S256x4096 .f32) (i : Fin 256) : Fin 4096 → EReal := fun j => s (ix2 i j)

/-- The number that stands for "no position". -/
def noPos : EReal := Ideal.ofBits .f32 0x45800000#32
/-- The covering value. -/
def cov : EReal := Ideal.ofBits .f32 0xFF61B1E6#32

theorem ofBits_posInf : Ideal.ofBits .f32 0x7F800000#32 = ⊤ := by
  simp [Ideal.ofBits, Ideal.ieee]
theorem ofBits_negInf : Ideal.ofBits .f32 0xFF800000#32 = ⊥ := by
  simp [Ideal.ofBits, Ideal.ieee]
theorem noPos_eq : noPos = ((4096 : ℝ) : EReal) := by
  simp [noPos, Ideal.ofBits, Ideal.ieee]
  exact_mod_cast (by norm_num : (8388608 : ℝ) * (2 ^ 11)⁻¹ = 4096)
theorem cov_lt : cov < ((-2000000 : ℝ) : EReal) := by
  simp [cov, Ideal.ofBits, Ideal.ieee]
  exact_mod_cast (by norm_num : (2000000 : ℝ) < 14791142 * 2 ^ 104)

theorem rowMax_apply (s : FVec Ideal S256x4096 .f32) (i : Fin 256) (o : Fin 1) : rowMax s (ix2 i o) = greatest (row s i) := by
  unfold rowMax greatest row
  pointwise
  rw [ofBits_negInf]

/-- A column's number. -/
theorem column_number (j : Fin 4096) : FloatOps.sitofp (F := Ideal) .f32 (BitVec.ofNat 32 j.val) = ((j.val : ℝ) : EReal) := by
  have hj := j.isLt
  show (((BitVec.ofNat 32 j.val).toInt : ℝ) : EReal) = _
  rw [BitVec.toInt_eq_toNat_of_lt (by rw [BitVec.toNat_ofNat]; omega), BitVec.toNat_ofNat, Nat.mod_eq_of_lt (by omega), Int.cast_natCast]

theorem rowPick_apply (s : FVec Ideal S256x4096 .f32) (i : Fin 256) (o : Fin 1) : rowPick s (ix2 i o) = lowest noPos (row s i) := by
  unfold rowPick lowest
  pointwise [k1_pay4]
  rw [ofBits_posInf]
  simp only [column_number, rowMax_apply]
  rfl

theorem row_cover (s : FVec Ideal S256x4096 .f32) (i : Fin 256) : row (cover s) i = covered noPos cov (row s i) := by
  funext j
  unfold row cover covered
  pointwise [k1_pay4]
  simp only [column_number, rowPick_apply]
  rfl

theorem row_rounds (s : FVec Ideal S256x4096 .f32) (i : Fin 256) (k : Nat) : row (rounds s k) i = after noPos cov (row s i) k := by
  induction k with
  | zero => rfl
  | succ k ih =>
    show row (cover (rounds s k)) i = covered noPos cov (after noPos cov (row s i) k)
    rw [row_cover, ih]

theorem eight_apply (f : Nat → FVec Ideal S256x1 .f32) (i : Fin 256) (k : Fin 8) : eight f (ix2 i k) = f k.val (ix2 i 0) := by
  unfold eight
  pointwise
  fin_vals k with hk
  all_goals simp only [hk, Nat.reduceSub, Nat.reduceLT, ↓reduceDIte]
  all_goals rfl

/-- The kernel's factor before the exponential. -/
def invTemp : ℝ := 134217728 / 13421773

theorem soft_apply (v : FVec Ideal S256x8 .f32) (i : Fin 256) (k : Fin 8) (o : Fin 1) :
    soft v (ix3 o i k) = Ideal.div (Ideal.exp ((v (ix2 i k) - v (ix2 i 0)) * (invTemp : EReal)))
      (∑ l : Fin 8, Ideal.exp ((v (ix2 i l) - v (ix2 i 0)) * (invTemp : EReal))) := by
  unfold soft
  pointwise
  rfl

/-- The weights of a tile, from the rows' greatest entries round by round. -/
theorem tileW_apply (s : FVec Ideal S256x4096 .f32) (i : Fin 256) (k : Fin 8) (o : Fin 1) (g : Nat → EReal)
    (hg : ∀ l < 8, greatest (after noPos cov (row s i) l) = g l) :
    tileW s (ix3 o i k) = Ideal.div (Ideal.exp ((g k.val - g 0) * (invTemp : EReal)))
      (∑ l : Fin 8, Ideal.exp ((g l.val - g 0) * (invTemp : EReal))) := by
  have h : ∀ l : Fin 8, eight (fun n => rowMax (rounds s n)) (ix2 i l) = g l.val := fun l => by
    rw [eight_apply, rowMax_apply, row_rounds, hg l.val l.isLt]
  unfold tileW
  rw [soft_apply]
  simp only [h]
  rfl

/-- The routes of a tile, from the rows' lowest positions round by round. -/
theorem tileR_apply (s : FVec Ideal S256x4096 .f32) (i : Fin 256) (k : Fin 8) (o : Fin 1) (t : Fin 4096)
    (ht : lowest noPos (after noPos cov (row s i) k.val) = ((t.val : ℝ) : EReal)) :
    tileR s (ix3 o i k) = BitVec.ofNat 32 t.val := by
  unfold tileR
  pointwise
  rw [eight_apply, rowPick_apply, row_rounds, ht]
  have hj := t.isLt
  show BitVec.ofInt 32 (Ideal.toIntClamped _ _ ((t.val : ℝ) : EReal)) = _
  rw [Ideal.toIntClamped_coe, if_pos (Nat.cast_nonneg _), Int.floor_natCast, min_eq_right (by norm_num <;> omega), max_eq_right (by norm_num <;> omega)]
  rfl

end Cert.Val

end
-- ==== Proof.Val.Spec.lean ====
module

public import proofs.«01_k».proof.Proof.Val.Bounds
public import proofs.«01_k».proof.Proof.Val.Tile

/-! # The scores, in plain words

A projected entry, normalised along its row, and the score of a position against another: the two formulas both programs
are compared with. -/

@[expose] public section

set_option maxRecDepth 16384

noncomputable section

namespace Cert.Val

open Idealize.ShloMosaic Idealize.ShloMosaic.TcCoe
open Cert.KernelIdeal

/-- The floor of a row's norm. -/
def eps : EReal := Ideal.ofBits .f32 0x2B8CBCCC#32

theorem eps_pos : ∃ r : ℝ, 0 < r ∧ eps = (r : EReal) := by
  refine ⟨9223372 * (2 ^ 63)⁻¹, by positivity, ?_⟩
  unfold eps
  simp [Ideal.ofBits, Ideal.ieee]

/-- Entry `e` of the normalised projection of position `p` of batch `n`. -/
def proj (x : FVec Ideal S2x4097x1024 .f32) (w : FVec Ideal S1024x1024 .f32) (b : FVec Ideal S1024 .f32) (n : Fin 2) (p : Fin 4096) : Fin 1024 → EReal :=
  unit eps fun e => (∑ d : Fin 1024, x (ix3 n (⟨1 + p.val, by omega⟩ : Fin 4097) d) * w (ix2 e d)) + b (ix1 e)

/-- The score of position `j` for position `p` of batch `n`. -/
def score (x : FVec Ideal S2x4097x1024 .f32) (wq : FVec Ideal S1024x1024 .f32) (bq : FVec Ideal S1024 .f32) (wk : FVec Ideal S1024x1024 .f32) (bk : FVec Ideal S1024 .f32)
    (pb : FVec Ideal S4096x4096 .f32) (n : Fin 2) (p : Fin 4096) : Fin 4096 → EReal :=
  fun j => (∑ d : Fin 1024, proj x wq bq n p d * proj x wk bk n j d) + pb (ix2 p j)

theorem proj_within (x : FVec Ideal S2x4097x1024 .f32) (w : FVec Ideal S1024x1024 .f32) (b : FVec Ideal S1024 .f32) (n : Fin 2) (p : Fin 4096) (d : Fin 1024) :
    Within 1 (proj x w b n p d) := by
  obtain ⟨r, hr, he⟩ := eps_pos
  unfold proj; rw [he]; exact unit_within r hr _ d

/-- The part of a score that comes from the projections is at most 1024 either way. -/
theorem dot_within (x : FVec Ideal S2x4097x1024 .f32) (wq : FVec Ideal S1024x1024 .f32) (bq : FVec Ideal S1024 .f32) (wk : FVec Ideal S1024x1024 .f32) (bk : FVec Ideal S1024 .f32)
    (n : Fin 2) (p j : Fin 4096) : Within 1024 (∑ d : Fin 1024, proj x wq bq n p d * proj x wk bk n j d) := by
  have h := Within.dot (fun d => proj_within x wq bq n p d) (fun d => proj_within x wk bk n j d)
  simpa using h

end Cert.Val

end
-- ==== Proof.Val.RefProj.lean ====
module

public import proofs.«01_k».proof.Proof.Val.Spec
public import proofs.«01_k».proof.Proof.Gen.ReferenceIdeal.Read

/-! # The reference's scores -/

@[expose] public section

set_option maxRecDepth 16384

noncomputable section

namespace Cert.Val

open Idealize.ShloMosaic Idealize.ShloMosaic.TcCoe
open Cert.ReferenceIdeal.Read

open Cert.ReferenceIdeal (S2x4097x1024 S1024x1024 S1024 S4096x4096)

theorem ref_q (x : FVec Ideal S2x4097x1024 .f32) (w : FVec Ideal S1024x1024 .f32) (b : FVec Ideal S1024 .f32) (n : Fin 2) (p : Fin 4096) (e : Fin 1024) :
    val_main_v12 (F := Ideal) x w b (ix3 n p e) = proj x w b n p e := by
  unfold proj unit
  pointwise [val_main_v12, val_main_v11, val_main_v10, val_main_v9, val_main_v8, val_main_v7, val_main_v6, val_main_v5, val_main_v4, val_main_v3, val_main_v2, val_main_v1, val_main_v0, val_main_cst, val_main_cst_0]
  rfl

theorem ref_k (x : FVec Ideal S2x4097x1024 .f32) (w : FVec Ideal S1024x1024 .f32) (b : FVec Ideal S1024 .f32) (n : Fin 2) (p : Fin 4096) (e : Fin 1024) :
    val_main_v24 (F := Ideal) x w b (ix3 n p e) = proj x w b n p e := ref_q x w b n p e

theorem ref_score (x : FVec Ideal S2x4097x1024 .f32) (wq : FVec Ideal S1024x1024 .f32) (bq : FVec Ideal S1024 .f32) (wk : FVec Ideal S1024x1024 .f32) (bk : FVec Ideal S1024 .f32)
    (pb : FVec Ideal S4096x4096 .f32) (n : Fin 2) (p j : Fin 4096) :
    val_main_v28 (F := Ideal) x wq bq wk bk pb (ix3 n p j) = score x wq bq wk bk pb n p j := by
  unfold score
  pointwise [val_main_v28, val_main_v27, val_main_v26, val_main_v25]
  simp only [ref_q, ref_k]

/-- The value the reference puts in place of a position's own score. -/
def own : EReal := Ideal.ofBits .f32 0xCE6E6B28#32
/-- The reference's temperature. -/
def temp : EReal := Ideal.ofBits .f32 0x3DCCCCCD#32

theorem own_eq : own = ((-1000000000 : ℝ) : EReal) := by
  unfold own
  simp [Ideal.ofBits, Ideal.ieee]
  exact_mod_cast (by norm_num : (15625000 : ℝ) * 2 ^ 6 = 1000000000)
theorem temp_eq : temp = ((13421773 / 134217728 : ℝ) : EReal) := by
  unfold temp
  simp [Ideal.ofBits, Ideal.ieee]
  exact_mod_cast (by norm_num : (13421773 : ℝ) * (2 ^ 27)⁻¹ = 13421773 / 134217728)

/-- What the reference ranks the positions by. -/
def key (s : Fin 4096 → EReal) (p j : Fin 4096) : EReal := Ideal.div (if p = j then own else s j) temp

theorem same_position (p j : Fin 4096) : (IntOp.cmpi .eq (IntOp.addi (BitVec.ofNat 32 p.val) 0#32) (BitVec.ofNat 32 j.val) = 1) ↔ p = j := by
  have hp := p.isLt
  have hj := j.isLt
  have h : (BitVec.ofNat 32 p.val + 0#32 = BitVec.ofNat 32 j.val) ↔ p = j := by
    rw [BitVec.add_zero]
    constructor
    · intro h
      have := congrArg BitVec.toNat h
      rw [BitVec.toNat_ofNat, BitVec.toNat_ofNat, Nat.mod_eq_of_lt (by omega), Nat.mod_eq_of_lt (by omega)] at this
      exact Fin.ext this
    · rintro rfl; rfl
  rw [← h]
  show BitVec.ofBool (BitVec.ofNat 32 p.val + 0#32 == BitVec.ofNat 32 j.val) = 1#1 ↔ _
  by_cases e : BitVec.ofNat 32 p.val + 0#32 = BitVec.ofNat 32 j.val
  · rw [beq_iff_eq.2 e]; exact iff_of_true rfl e
  · rw [beq_eq_false_iff_ne.2 e]; exact iff_of_false (by decide) e

theorem ref_key (x : FVec Ideal S2x4097x1024 .f32) (wq : FVec Ideal S1024x1024 .f32) (bq : FVec Ideal S1024 .f32) (wk : FVec Ideal S1024x1024 .f32) (bk : FVec Ideal S1024 .f32)
    (pb : FVec Ideal S4096x4096 .f32) (n : Fin 2) (p j : Fin 4096) :
    val_main_v37 (F := Ideal) x wq bq wk bk pb (ix3 n p j) = key (score x wq bq wk bk pb n p) p j := by
  pointwise [val_main_v37, val_main_v36, val_main_cst_4, val_main_v35, val_main_call0_v2, val_main_call0_v1, val_main_call0_v0, val_main_cst_3, val_main_v34, val_main_v33, val_main_v32, val_main_v31, val_main_c, val_main_v30, val_main_v29]
  simp only [ref_score]
  unfold key Scalar.select
  simp only [same_position]
  rfl

end Cert.Val

end
-- ==== Proof.Val.RefTop.lean ====
module

public import proofs.«01_k».proof.Proof.Val.RefProj
public import proofs.«01_k».proof.Proof.Val.Order

/-! # The reference's eight greatest and their weights -/

@[expose] public section

set_option maxRecDepth 16384

noncomputable section

namespace Cert.Val

open Idealize.ShloMosaic Idealize.ShloMosaic.TcCoe
open Cert.ReferenceIdeal.Read
open Cert.ReferenceIdeal (S2x4097x1024 S1024x1024 S1024 S4096x4096 S2x4096x4096 S2x4096x8)

/-- The positions in the order a stable descending sort of `r` gives them. -/
def sorted (r : Fin 4096 → EReal) (k : Nat) : Fin 4096 :=
  if h : k < 4096 then sortedFrom (fun a b => Ideal.cmp .ogt (r a) (r b) == 1#1) ⟨k, h⟩ else ⟨0, by decide⟩

theorem sorted_leads (r : Fin 4096 → EReal) : Leads r 4096 (sorted r) := by
  refine sortedFrom_leads r _ (fun a b => ?_) (by decide)
  show (BitVec.ofBool (decide (r b < r a)) == 1#1) = true ↔ _
  by_cases h : r b < r a
  · rw [decide_eq_true h]; exact iff_of_true rfl h
  · rw [decide_eq_false h]; exact iff_of_false (by decide) h

theorem along_last (n : Fin 2) (p j k : Fin 4096) : (ix3 n p j : S2x4096x4096.Idx).along 2 k = ix3 n p k := by
  funext a
  match a with
  | ⟨0, _⟩ => rfl
  | ⟨1, _⟩ => rfl
  | ⟨2, _⟩ => rfl

section Sorted
variable {β : Type} (gt : EReal → EReal → BitVec 1) (X : S2x4096x4096.Idx → EReal) (Y : S2x4096x4096.Idx → β) (n : Fin 2) (p k : Fin 4096)

theorem order_last :
    (fun a b : Fin 4096 => gt (X ((ix3 n p k : S2x4096x4096.Idx).along 2 a)) (X ((ix3 n p k : S2x4096x4096.Idx).along 2 b)) == 1#1)
      = fun a b => gt (X (ix3 n p a)) (X (ix3 n p b)) == 1#1 := by
  funext a b
  rw [along_last, along_last]

theorem sort2_eq : Host.sort2 S2x4096x4096 2 (fun l r => gt l.1 r.1) X Y =
    (fun j => X (j.along 2 (sortedFrom (fun a b => gt (X (j.along 2 a)) (X (j.along 2 b)) == 1#1) (j 2))),
     fun j => Y (j.along 2 (sortedFrom (fun a b => gt (X (j.along 2 a)) (X (j.along 2 b)) == 1#1) (j 2)))) := by
  unfold Host.sort2
  rw [dif_pos (by decide)]
  rfl

/-- What a sort along the last axis puts at place `k` of a row: the row's element at the sorted position, -/
theorem sort2_fst : (Host.sort2 S2x4096x4096 2 (fun l r => gt l.1 r.1) X Y).1 (ix3 n p k)
    = X (ix3 n p (sortedFrom (fun a b : Fin 4096 => gt (X (ix3 n p a)) (X (ix3 n p b)) == 1#1) k)) := by
  rw [sort2_eq]
  exact (congrArg X (along_last n p k _)).trans (congrArg (fun R => X (ix3 n p (sortedFrom R k))) (order_last gt X n p k))

/-- and, in the array carried along, its element there. -/
theorem sort2_snd : (Host.sort2 S2x4096x4096 2 (fun l r => gt l.1 r.1) X Y).2 (ix3 n p k)
    = Y (ix3 n p (sortedFrom (fun a b : Fin 4096 => gt (X (ix3 n p a)) (X (ix3 n p b)) == 1#1) k)) := by
  rw [sort2_eq]
  exact (congrArg Y (along_last n p k _)).trans (congrArg (fun R => Y (ix3 n p (sortedFrom R k))) (order_last gt X n p k))
end Sorted

variable (x : FVec Ideal S2x4097x1024 .f32) (wq : FVec Ideal S1024x1024 .f32) (bq : FVec Ideal S1024 .f32) (wk : FVec Ideal S1024x1024 .f32) (bk : FVec Ideal S1024 .f32)
  (pb : FVec Ideal S4096x4096 .f32)

/-- The key of position `j` for position `p` of batch `n`. -/
abbrev keyAt (n : Fin 2) (p : Fin 4096) : Fin 4096 → EReal := key (score x wq bq wk bk pb n p) p

/-- The position the sort puts at place `k` of a row. -/
theorem placed (n : Fin 2) (p : Fin 4096) (k : Fin 4096) :
    sortedFrom (fun a b : Fin 4096 => FloatOps.cmpfTotal (F := Ideal) (φ := .f32) .gt (val_main_v37 (F := Ideal) x wq bq wk bk pb (ix3 n p a))
        (val_main_v37 (F := Ideal) x wq bq wk bk pb (ix3 n p b)) == 1#1) k
      = sorted (keyAt x wq bq wk bk pb n p) k.val := by
  have e : (fun a b : Fin 4096 => FloatOps.cmpfTotal (F := Ideal) (φ := .f32) .gt (val_main_v37 (F := Ideal) x wq bq wk bk pb (ix3 n p a))
        (val_main_v37 (F := Ideal) x wq bq wk bk pb (ix3 n p b)) == 1#1)
      = fun a b => Ideal.cmp .ogt (keyAt x wq bq wk bk pb n p a) (keyAt x wq bq wk bk pb n p b) == 1#1 := by
    funext a b
    rw [ref_key, ref_key]
    rfl
  rw [e]
  unfold sorted
  rw [dif_pos k.isLt]

theorem ref_indices (n : Fin 2) (p : Fin 4096) (k : Fin 8) :
    val_main_indices (F := Ideal) x wq bq wk bk pb (ix3 n p k) = BitVec.ofNat 32 (sorted (keyAt x wq bq wk bk pb n p) k.val).val := by
  unfold val_main_indices Host.topK
  pointwise
  rw [sort2_snd (fun a b => FloatOps.cmpfTotal (F := Ideal) (φ := .f32) .gt a b), placed]
  rfl

theorem ref_values (n : Fin 2) (p : Fin 4096) (k : Fin 8) :
    val_main_values (F := Ideal) x wq bq wk bk pb (ix3 n p k) = keyAt x wq bq wk bk pb n p (sorted (keyAt x wq bq wk bk pb n p) k.val) := by
  unfold val_main_values Host.topK
  pointwise
  rw [sort2_fst (fun a b => FloatOps.cmpfTotal (F := Ideal) (φ := .f32) .gt a b), placed, ref_key]

/-- The softmax weight at `k` of eight values, as the reference computes it once the greatest stands first. -/
def softmax (v : Nat → EReal) (k : Nat) : EReal := Ideal.div (Ideal.exp (v k - v 0)) (∑ l : Fin 8, Ideal.exp (v l.val - v 0))

/-- The greatest of eight values of which the first is the greatest. -/
theorem greatest_first (v : Nat → EReal) (h : ∀ l < 8, v l ≤ v 0) :
    max (Ideal.ofBits .f32 0xFF800000#32) ((Finset.univ : Finset (Fin 8)).fold max (Ideal.ofBits .f32 0xFF800000#32) fun l => v l.val) = v 0 := by
  rw [ofBits_negInf, max_eq_right bot_le]
  refine le_antisymm ?_ ?_
  · exact (Finset.fold_max_le _).2 ⟨bot_le, fun l _ => h l.val l.isLt⟩
  · exact Finset.le_fold_max _ |>.2 (.inr ⟨0, Finset.mem_univ _, le_rfl⟩)

theorem ref_weights (n : Fin 2) (p : Fin 4096) (k : Fin 8) :
    val_main_v48 (F := Ideal) x wq bq wk bk pb (ix3 n p k)
      = softmax (fun l => keyAt x wq bq wk bk pb n p (sorted (keyAt x wq bq wk bk pb n p) l)) k.val := by
  pointwise [val_main_v48, val_main_v47, val_main_v46, val_main_v45, val_main_cst_7, val_main_v44, val_main_v43, val_main_v42, val_main_v41, val_main_v40, val_main_v39, val_main_cst_6, val_main_v38, val_main_cst_5]
  simp only [ref_values]
  rw [greatest_first (fun l => keyAt x wq bq wk bk pb n p (sorted (keyAt x wq bq wk bk pb n p) l))
    (fun l hl => (sorted_leads _).first_ge (lt_trans hl (by decide)))]
  rfl

end Cert.Val

end
-- ==== Proof.Val.KerScore.lean ====
module

public import proofs.«01_k».proof.Proof.Val.Spec
public import proofs.«01_k».proof.Proof.KI.Region1
public import Idealize.ShloMosaic.Lib.Pipeline.ValueKit

/-! # The kernel's score tiles -/

@[expose] public section

set_option maxRecDepth 16384

noncomputable section

namespace Cert.Val

open Idealize.ShloMosaic Idealize.ShloMosaic.TcCoe
open Cert.KernelIdeal Cert.KernelIdeal.Gen Cert.KernelIdeal.Own

variable (x0 : FVec Ideal S1x512x1024 .f32) (x1 : FVec Ideal S512x4096 .f32) (ks : FVec Ideal S4096x1024 .f32)

/-- The lower half's scores, from the loads of the body. -/
theorem lo_apply (i : Fin 256) (j : Fin 4096) :
    k1_pay5 (F := Ideal) (View.ld x0 qAll) (View.ld ks keysAll) (View.ld x1 biasLo) (ix2 i j)
      = (∑ d : Fin 1024, x0 (ix3 0 (⟨i.val, by omega⟩ : Fin 512) d) * ks (ix2 j d)) + x1 (ix2 (⟨i.val, by omega⟩ : Fin 512) j) := by
  pointwise [k1_pay5, k1_pay3]
  try rfl

/-- The upper half's. -/
theorem hi_apply (i : Fin 256) (j : Fin 4096) :
    tileHi (F := Ideal) (View.ld x0 qAll) (View.ld ks keysAll) (View.ld x1 biasHi) (ix2 i j)
      = (∑ d : Fin 1024, x0 (ix3 0 (⟨256 + i.val, by omega⟩ : Fin 512) d) * ks (ix2 j d)) + x1 (ix2 (⟨256 + i.val, by omega⟩ : Fin 512) j) := by
  pointwise [tileHi, k1_pay33, k1_pay32, k1_pay3]
  try rfl

/-- The score row of block row `r`. -/
def blockRow (r : Fin 512) : Fin 4096 → EReal := fun j => (∑ d : Fin 1024, x0 (ix3 0 r d) * ks (ix2 j d)) + x1 (ix2 r j)

/-- Row `i` of the block's lower half, and of its upper half. -/
def loRow (i : Fin 256) : Fin 512 := ⟨i.val, by omega⟩
@[inherit_doc loRow] def hiRow (i : Fin 256) : Fin 512 := ⟨256 + i.val, by omega⟩

theorem row_lo (i : Fin 256) :
    row (k1_pay5 (F := Ideal) (View.ld x0 qAll) (View.ld ks keysAll) (View.ld x1 biasLo)) i = blockRow x0 x1 ks (loRow i) :=
  funext fun j => lo_apply x0 x1 ks i j
theorem row_hi (i : Fin 256) :
    row (tileHi (F := Ideal) (View.ld x0 qAll) (View.ld ks keysAll) (View.ld x1 biasHi)) i = blockRow x0 x1 ks (hiRow i) :=
  funext fun j => hi_apply x0 x1 ks i j

/-- What the routes block holds at row `r`, given what the rounds find there. -/
theorem outR_apply (o : Fin 1) (r : Fin 512) (k : Fin 8) (t : Fin 4096)
    (ht : lowest noPos (after noPos cov (blockRow x0 x1 ks r) k.val) = ((t.val : ℝ) : EReal)) :
    outR (F := Ideal) x0 x1 ks (ix3 o r k) = BitVec.ofNat 32 t.val := by
  unfold outR
  rw [rawRLo_eq, rawRHi_eq]
  canon_tiles x h
  · idx_vars x
    obtain rfl : r = hiRow x1 := Fin.ext h1
    obtain rfl : k = x2 := Fin.ext h2
    exact tileR_apply _ _ _ _ t (by rw [row_hi]; exact ht)
  · idx_vars x
    obtain rfl : r = loRow x1 := Fin.ext h1
    obtain rfl : k = x2 := Fin.ext h2
    exact tileR_apply _ _ _ _ t (by rw [row_lo]; exact ht)

/-- The softmax weight at `k` of eight scores, as the kernel computes it. -/
def weight (g : Nat → EReal) (k : Nat) : EReal :=
  Ideal.div (Ideal.exp ((g k - g 0) * (invTemp : EReal))) (∑ l : Fin 8, Ideal.exp ((g l.val - g 0) * (invTemp : EReal)))

/-- What the weights block holds at row `r`, given the rounds' greatest entries there. -/
theorem outW_apply (o : Fin 1) (r : Fin 512) (k : Fin 8) (g : Nat → EReal)
    (hg : ∀ l < 8, greatest (after noPos cov (blockRow x0 x1 ks r) l) = g l) :
    outW (F := Ideal) x0 x1 ks (ix3 o r k) = weight g k.val := by
  unfold outW
  rw [rawWLo_eq, rawWHi_eq]
  canon_tiles x h
  · idx_vars x
    obtain rfl : r = hiRow x1 := Fin.ext h1
    obtain rfl : k = x2 := Fin.ext h2
    exact tileW_apply _ _ _ _ g (by rw [row_hi]; exact hg)
  · idx_vars x
    obtain rfl : r = loRow x1 := Fin.ext h1
    obtain rfl : k = x2 := Fin.ext h2
    exact tileW_apply _ _ _ _ g (by rw [row_lo]; exact hg)

/-! ## The arrays after the call -/

variable (V : (c : Dev nD) → (b : Ref sig .tc) → Buf (Elt Ideal) ((c : Thread nD τ).loc b)) (c : Dev nD)

/-- The score row of position `p` of batch `n`, from the arrays the call finds. -/
def arrayRow (q k : FVec Ideal S2x4096x1024 .f32) (pb : FVec Ideal S4096x4096 .f32) (n : Fin 2) (p : Fin 4096) : Fin 4096 → EReal := fun j =>
  (∑ d : Fin 1024, q (ix3 n p d) * k (ix3 n j d)) + pb (ix2 p j)

theorem where1 : ∀ t : Fin cfg1.N, win1_0.index t = ![t.val / 8, t.val % 8, 0] ∧ win1_1.index t = ![t.val % 8, 0]
    ∧ win1_2.index t = ![t.val / 8, t.val % 8, 0] ∧ win1_3.index t = ![t.val / 8, t.val % 8, 0] := by
  decide +kernel

theorem point_lt1 (t : Fin cfg1.N) : t.val < 16 := Nat.lt_of_lt_of_eq t.isLt N_1

theorem blockRow_eq (t : Fin cfg1.N) (r : Fin 512) (n : Fin 2) (p : Fin 4096) (hn : n.val = t.val / 8) (hp : p.val = 512 * (t.val % 8) + r.val) :
    blockRow (blk1 V c 0 t) (blk1 V c 1 t) (keys1 V c t) r = arrayRow (V c main_v2_0) (V c main_v2_1) (V c main_arg5) n p := by
  have ht := point_lt1 t
  obtain ⟨i0, i1, -⟩ := where1 t
  funext j
  unfold blockRow arrayRow
  refine congrArg₂ (· + ·) (Finset.sum_congr rfl fun d _ => congrArg₂ (· * ·) ?_ ?_) ?_
  · blk_ext [blk1, i0]
  · have e : n = ⟨t.val / 8 % 2, Nat.mod_lt _ (by decide)⟩ := Fin.ext (by show n.val = t.val / 8 % 2; omega)
    subst e
    rfl
  · blk_ext [blk1, i1]

theorem routes_congr (T : Fin 2 → Fin 4096 → Nat → Fin 4096) {n n' : Fin 2} {p p' : Fin 4096} {k k' : Nat} (hn : n.val = n'.val) (hp : p.val = p'.val) (hk : k = k') :
    BitVec.ofNat 32 (T n p k).val = BitVec.ofNat 32 (T n' p' k').val := by
  obtain rfl := Fin.ext hn; obtain rfl := Fin.ext hp; subst hk; rfl
theorem weights_congr (g : Fin 2 → Fin 4096 → Nat → EReal) {n n' : Fin 2} {p p' : Fin 4096} {k k' : Nat} (hn : n.val = n'.val) (hp : p.val = p'.val) (hk : k = k') :
    weight (g n p) k = weight (g n' p') k' := by
  obtain rfl := Fin.ext hn; obtain rfl := Fin.ext hp; subst hk; rfl

/-- The routes' array after the call. -/
theorem array_routes (T : Fin 2 → Fin 4096 → Nat → Fin 4096)
    (hT : ∀ n p, ∀ k < 8, lowest noPos (after noPos cov (arrayRow (V c main_v2_0) (V c main_v2_1) (V c main_arg5) n p) k) = (((T n p k).val : ℝ) : EReal)) :
    (dat1 V c).arrAt 2 cfg1.N = fun i => BitVec.ofNat 32 (T (i 0) (i 1) (i 2).val).val := by
  refine (dat1 V c).arrAt_eq_of_covers 2 _ (by decide +kernel) fun t hf y => ?_
  obtain ⟨-, -, i2, -⟩ := where1 t
  blk_simp
  rw [after1_2]
  idx_vars y
  have ht := point_lt1 t
  refine (outR_apply _ _ _ _ _ _ (T ⟨t.val / 8, by omega⟩ ⟨512 * (t.val % 8) + y1.val, by omega⟩ y2.val) ?_).trans (routes_congr T ?_ ?_ ?_)
  · rw [blockRow_eq V c t y1 ⟨t.val / 8, by omega⟩ ⟨512 * (t.val % 8) + y1.val, by omega⟩ rfl rfl]
    exact hT _ _ _ y2.isLt
  · blk_simp [i2]
  · blk_simp [i2]
    show 512 * (t.val % 8) + y1.val = _
    omega
  · blk_simp [i2]

/-- The weights' array after the call. -/
theorem array_weights (g : Fin 2 → Fin 4096 → Nat → EReal)
    (hg : ∀ n p, ∀ l < 8, greatest (after noPos cov (arrayRow (V c main_v2_0) (V c main_v2_1) (V c main_arg5) n p) l) = g n p l) :
    (dat1 V c).arrAt 3 cfg1.N = fun i => weight (g (i 0) (i 1)) (i 2).val := by
  refine (dat1 V c).arrAt_eq_of_covers 3 _ (by decide +kernel) fun t hf y => ?_
  obtain ⟨-, -, -, i3⟩ := where1 t
  blk_simp
  rw [after1_3]
  idx_vars y
  have ht := point_lt1 t
  refine (outW_apply _ _ _ _ _ _ (g ⟨t.val / 8, by omega⟩ ⟨512 * (t.val % 8) + y1.val, by omega⟩) ?_).trans (weights_congr g ?_ ?_ ?_)
  · rw [blockRow_eq V c t y1 ⟨t.val / 8, by omega⟩ ⟨512 * (t.val % 8) + y1.val, by omega⟩ rfl rfl]
    exact hg _ _
  · blk_simp [i3]
  · blk_simp [i3]
    show 512 * (t.val % 8) + y1.val = _
    omega
  · blk_simp [i3]

end Cert.Val

end
-- ==== Proof.Val.Tie.lean ====
module

public import proofs.«01_k».proof.Proof.Val.RefTop
public import proofs.«01_k».proof.Proof.Val.KerScore

/-! # The two selections agree

With a position's own score below every other, the kernel's eight rounds and the reference's stable sort list the same
positions, and the two softmaxes give the same weights. -/

@[expose] public section

set_option maxRecDepth 16384

noncomputable section

namespace Cert.Val

open Idealize.ShloMosaic

/-- Below every score of another position, above every score of the own. -/
def bar : ℝ := -1001024

/-- What the precondition gives for the score row of position `p`. -/
def Excluded (s : Fin 4096 → EReal) (p : Fin 4096) : Prop := s p < (bar : EReal) ∧ ∀ j, j ≠ p → (bar : EReal) ≤ s j

theorem invTemp_pos : 0 < invTemp := by unfold invTemp; norm_num

/-- A key is the score times the kernel's factor. -/
theorem key_other (s : Fin 4096 → EReal) {p j : Fin 4096} (h : j ≠ p) : key s p j = s j * (invTemp : EReal) := by
  unfold key
  rw [if_neg (Ne.symm h), temp_eq, Ideal.div_coe (by norm_num)]
  exact congrArg (fun r : ℝ => s j * (r : EReal)) (by unfold invTemp; norm_num)

theorem key_own (s : Fin 4096 → EReal) (p : Fin 4096) : key s p p = ((-1000000000 : ℝ) : EReal) * (invTemp : EReal) := by
  unfold key
  rw [if_pos rfl, temp_eq, own_eq, Ideal.div_coe (by norm_num)]
  exact congrArg (fun r : ℝ => ((-1000000000 : ℝ) : EReal) * (r : EReal)) (by unfold invTemp; norm_num)

theorem top_le : (((4096 : Nat) : ℝ) : EReal) ≤ noPos := by rw [noPos_eq]; norm_num

/-- The positions the kernel's rounds find in a score row. -/
def picked (s : Fin 4096 → EReal) : Nat → Fin 4096 := found (by decide) noPos cov top_le s

theorem lowest_picked (s : Fin 4096 → EReal) (k : Nat) : lowest noPos (after noPos cov s k) = (((picked s k).val : ℝ) : EReal) :=
  lowest_after _ noPos cov top_le s k

section
variable {s : Fin 4096 → EReal} {p : Fin 4096} (h : Excluded s p)
include h

theorem cov_bar : cov < (bar : EReal) := cov_lt.trans (by unfold bar; exact_mod_cast (by norm_num : (-2000000 : ℝ) < -1001024))

theorem picked_ne {k : Nat} (hk : k < 8) : picked s k ≠ p :=
  (found_new (by decide) noPos cov top_le s p _ (cov_bar h) h.1 h.2 (m := 8) (by decide) hk).2

theorem greatest_picked {k : Nat} (hk : k < 8) : greatest (after noPos cov s k) = s (picked s k) :=
  greatest_eq (by decide) noPos cov top_le s p _ (cov_bar h) h.1 h.2 (m := 8) (by decide) hk

/-- The rounds and the sort list the same positions. -/
theorem picked_sorted {k : Nat} (hk : k < 8) : picked s k = sorted (key s p) k := by
  have hl : Leads s 8 (picked s) := found_leads (by decide) noPos cov top_le s p _ (cov_bar h) h.1 h.2 (by decide)
  have hr : Leads (key s p) 8 (picked s) := hl.transfer p (fun k hk => picked_ne h hk)
    (fun j hj => by
      rw [key_own, key_other s hj, mul_coe_lt_iff _ _ _ invTemp_pos]
      exact lt_of_lt_of_le (by unfold bar; exact_mod_cast (by norm_num : (-1000000000 : ℝ) < -1001024)) (h.2 j hj))
    (fun i j hi hj => by rw [key_other s hi, key_other s hj, mul_coe_lt_iff _ _ _ invTemp_pos])
  exact hr.unique (fun k hk => sorted_leads (key s p) k (lt_trans hk (by decide))) k hk

/-- The kernel's weights are the reference's. -/
theorem weight_softmax {k : Nat} (hk : k < 8) :
    weight (fun l => s (picked s l)) k = softmax (fun l => key s p (sorted (key s p) l)) k := by
  have e : ∀ l < 8, (s (picked s l) - s (picked s 0)) * (invTemp : EReal) = key s p (sorted (key s p) l) - key s p (sorted (key s p) 0) := fun l hl => by
    rw [sub_mul_coe _ _ _ invTemp_pos, ← picked_sorted h hl, ← picked_sorted h (by decide : 0 < 8), key_other s (picked_ne h hl), key_other s (picked_ne h (by decide))]
  unfold weight softmax
  rw [e k hk]
  exact congrArg _ (Finset.sum_congr rfl fun l _ => by rw [e l.val l.isLt])

end

end Cert.Val

end
-- ==== Proof.Val.Pre.lean ====
module

public import proofs.«01_k».proof.Proof.Val.Tie
public import proofs.«01_k».proof.Proof.Gen.Pre_self_excluded
public import proofs.«01_k».proof.Defs

/-! # What the precondition gives -/

@[expose] public section

set_option maxRecDepth 16384

noncomputable section

namespace Cert.Val

open Idealize.ShloMosaic
open Cert.KernelIdeal

attribute [local instance] Cert.Pre_self_excluded.Gen.facts

variable (x : FVec Ideal S2x4097x1024 .f32) (wq : FVec Ideal S1024x1024 .f32) (bq : FVec Ideal S1024 .f32) (wk : FVec Ideal S1024x1024 .f32) (bk : FVec Ideal S1024 .f32)
  (pb : FVec Ideal S4096x4096 .f32)

theorem ofBits_e8 : Ideal.ofBits .f32 0xCCBEBC20#32 = ((-100000000 : ℝ) : EReal) := by
  simp [Ideal.ofBits, Ideal.ieee]
  exact_mod_cast (by norm_num : (12500000 : ℝ) * 2 ^ 3 = 100000000)
theorem ofBits_e6 : Ideal.ofBits .f32 0xC9742400#32 = ((-1000000 : ℝ) : EReal) := by
  simp [Ideal.ofBits, Ideal.ieee]
  exact_mod_cast (by norm_num : (16000000 : ℝ) * (2 ^ 4)⁻¹ = 1000000)

theorem of_decide {q : Prop} [Decidable q] (h : BitVec.ofBool (decide q) = 1#1) : q := by
  by_contra hq
  rw [decide_eq_false hq] at h
  exact absurd h (by decide)

/-- The precondition at one entry of the bias. -/
theorem pre_apply (p j : Fin 4096) (h : Cert.Pre_self_excluded.fn (F := Ideal) x wq bq wk bk pb (ix2 p j) = 1#1) :
    if p = j then pb (ix2 p j) ≤ ((-100000000 : ℝ) : EReal) else ((-1000000 : ℝ) : EReal) ≤ pb (ix2 p j) := by
  unfold Cert.Pre_self_excluded.fn at h
  pointwise at h
  have e := same_position p j
  rw [show IntOp.addi (BitVec.ofNat 32 p.val) 0#32 = BitVec.ofNat 32 p.val from BitVec.add_zero _] at e
  unfold Scalar.select at h
  rw [ofBits_e8, ofBits_e6] at h
  by_cases hpj : p = j
  · rw [if_pos (e.2 hpj)] at h
    rw [if_pos hpj]
    exact of_decide h
  · rw [if_neg (fun h' => hpj (e.1 h'))] at h
    rw [if_neg hpj]
    exact of_decide h

/-- Under the precondition a position's own score is below the bar, every other above it. -/
theorem excluded (n : Fin 2) (p : Fin 4096) (h : ∀ j, if p = j then pb (ix2 p j) ≤ ((-100000000 : ℝ) : EReal) else ((-1000000 : ℝ) : EReal) ≤ pb (ix2 p j)) :
    Excluded (score x wq bq wk bk pb n p) p := by
  refine ⟨?_, fun j hj => ?_⟩
  · have hp := h p
    rw [if_pos rfl] at hp
    obtain ⟨r, hr, hb⟩ := dot_within x wq bq wk bk n p p
    unfold score
    rw [hr]
    refine lt_of_le_of_lt (add_le_add_right hp _) ?_
    unfold bar
    rw [← EReal.coe_add, EReal.coe_lt_coe_iff]
    have := (abs_le.1 hb).2
    linarith
  · have hp := h j
    rw [if_neg (Ne.symm hj)] at hp
    obtain ⟨r, hr, hb⟩ := dot_within x wq bq wk bk n p j
    unfold score
    rw [hr]
    refine le_trans ?_ (add_le_add_right hp _)
    unfold bar
    rw [← EReal.coe_add, EReal.coe_le_coe_iff]
    have := (abs_le.1 hb).1
    linarith

end Cert.Val

end
-- ==== Proof.Val.KerProj.lean ====
module

public import proofs.«01_k».proof.Proof.Val.Spec
public import proofs.«01_k».proof.Proof.KI.Region0
public import Idealize.ShloMosaic.Lib.Pipeline.ValueKit

/-! # The kernel's projection blocks -/

@[expose] public section

set_option maxRecDepth 16384

noncomputable section

namespace Cert.Val

open Idealize.ShloMosaic Idealize.ShloMosaic.TcCoe
open Cert.KernelIdeal Cert.KernelIdeal.Gen Cert.KernelIdeal.Own

/-- Row `r` of the positions a projection point works on. -/
def rowOf (x0 : FVec Ideal S1x512x1024 .f32) (x1 : FVec Ideal S1x8x1024 .f32) (r : Fin 512) (d : Fin 1024) : EReal :=
  if h : r.val < 511 then x0 (ix3 0 (⟨1 + r.val, by omega⟩ : Fin 512) d) else x1 (ix3 0 0 d)

theorem projQ_apply (x0 : FVec Ideal S1x512x1024 .f32) (x1 : FVec Ideal S1x8x1024 .f32) (w : FVec Ideal S1024x1024 .f32) (b : FVec Ideal S1x1024 .f32)
    (o : Fin 1) (r : Fin 512) (e : Fin 1024) :
    projQ (F := Ideal) x0 x1 w b (ix3 o r e) = unit eps (fun e => (∑ d : Fin 1024, rowOf x0 x1 r d * w (ix2 e d)) + b (ix2 0 e)) e := by
  unfold projQ unit
  rw [View.canon_cons_unit_lit _ _ _ (by decide)]
  pointwise [k0_pay3, k0_pay2]
  rfl

theorem projK_apply (x0 : FVec Ideal S1x512x1024 .f32) (x1 : FVec Ideal S1x8x1024 .f32) (w : FVec Ideal S1024x1024 .f32) (b : FVec Ideal S1x1024 .f32)
    (o : Fin 1) (r : Fin 512) (e : Fin 1024) :
    projK (F := Ideal) x0 x1 w b (ix3 o r e) = unit eps (fun e => (∑ d : Fin 1024, rowOf x0 x1 r d * w (ix2 e d)) + b (ix2 0 e)) e := by
  unfold projK unit
  rw [View.canon_cons_unit_lit _ _ _ (by decide)]
  pointwise [k0_pay1, k0_pay5, k0_pay4, k0_pay2]
  rfl

/-! ## The blocks a point works on -/

variable (V : (c : Dev nD) → (b : Ref sig .tc) → Buf (Elt Ideal) ((c : Thread nD τ).loc b)) (c : Dev nD)

/-- The grid of the projection call: point `t` is block `t % 8` of batch `t / 8`. -/
theorem where0 : ∀ t : Fin cfg0.N, win0_0.index t = ![t.val / 8, t.val % 8, 0] ∧ win0_1.index t = ![t.val / 8, (t.val % 8 + 1) * 64, 0]
    ∧ win0_2.index t = ![0, 0] ∧ win0_3.index t = ![0, 0] ∧ win0_4.index t = ![0, 0] ∧ win0_5.index t = ![0, 0]
    ∧ win0_6.index t = ![t.val / 8, t.val % 8, 0] ∧ win0_7.index t = ![t.val / 8, t.val % 8, 0] := by
  decide +kernel

theorem point_lt (t : Fin cfg0.N) : t.val < 16 := Nat.lt_of_lt_of_eq t.isLt N_0

/-- The row a projection point works on is the next position's. -/
theorem rowOf_buf (t : Fin cfg0.N) (r : Fin 512) (d : Fin 1024) (n : Fin 2) (p : Fin 4097) (hn : n.val = t.val / 8) (hp : p.val = 1 + (512 * (t.val % 8) + r.val)) :
    rowOf (buf0 V c 0 t) (buf0 V c 1 t) r d = V c main_arg0 (ix3 n p d) := by
  have ht := point_lt t
  obtain ⟨i0, i1, -⟩ := where0 t
  unfold rowOf
  split
  · have hm : (cfg0.win 0).moved (cfg0.grid.coords t) (ix3 0 (⟨1 + r.val, by omega⟩ : Fin 512) d) = true :=
      ((cfg0.win 0).moved_iff _ _).mpr fun a => by rw [xsize0_0 t a]; exact Fin.isLt _
    unfold buf0 Pipeline.Window.fill
    rw [dif_pos hm]
    blk_ext [blk0, i0]
  · have hm : (cfg0.win 1).moved (cfg0.grid.coords t) (ix3 (0 : Fin 1) (0 : Fin 8) d) = true :=
      ((cfg0.win 1).moved_iff _ _).mpr fun a => by
        obtain ⟨h0, h1, h2⟩ := xsize0_1 t
        match a with
        | ⟨0, _⟩ => exact lt_of_lt_of_le Nat.zero_lt_one h0
        | ⟨1, _⟩ => exact lt_of_lt_of_le Nat.zero_lt_one h1
        | ⟨2, _⟩ => exact lt_of_lt_of_le d.isLt h2.ge
    unfold buf0 Pipeline.Window.fill
    rw [dif_pos hm]
    blk_ext [blk0, i1]

theorem mat_q (t : Fin cfg0.N) (e d : Fin 1024) : blk0 V c 2 t (ix2 e d) = V c main_arg1 (ix2 e d) := by
  obtain ⟨-, -, i2, -⟩ := where0 t
  blk_ext [blk0, i2]
theorem vec_q (t : Fin cfg0.N) (e : Fin 1024) : blk0 V c 3 t (ix2 0 e) = V c main_v0 (ix2 0 e) := by
  obtain ⟨-, -, -, i3, -⟩ := where0 t
  blk_ext [blk0, i3]
theorem mat_k (t : Fin cfg0.N) (e d : Fin 1024) : blk0 V c 4 t (ix2 e d) = V c main_arg3 (ix2 e d) := by
  obtain ⟨-, -, -, -, i4, -⟩ := where0 t
  blk_ext [blk0, i4]
theorem vec_k (t : Fin cfg0.N) (e : Fin 1024) : blk0 V c 5 t (ix2 0 e) = V c main_v1 (ix2 0 e) := by
  obtain ⟨-, -, -, -, -, i5, -⟩ := where0 t
  blk_ext [blk0, i5]

theorem unit_congr {n : Nat} (ε : EReal) {f g : Fin n → EReal} (h : ∀ e, f e = g e) {i j : Fin n} (e : i = j) : unit ε f i = unit ε g j := by
  rw [funext h, e]

/-- The queries' array after the call. -/
theorem array_q : (dat0 V c).arrAt 6 cfg0.N = fun i => proj (V c main_arg0) (V c main_arg1) (fun j => V c main_v0 (ix2 0 (j 0))) (i 0) (i 1) (i 2) := by
  refine (dat0 V c).arrAt_eq_of_covers 6 _ (by decide +kernel) fun t hf y => ?_
  obtain ⟨-, -, -, -, -, -, i6, -⟩ := where0 t
  blk_simp
  rw [after0_6]
  idx_vars y
  rw [projQ_apply]
  refine unit_congr eps (fun e => congrArg₂ (· + ·) (Finset.sum_congr rfl fun d _ => congrArg₂ (· * ·) (rowOf_buf V c t y1 d _ _ ?_ ?_) (mat_q V c t e d)) (vec_q V c t e)) ?_
  · blk_simp [i6]
  · blk_simp [i6]
    show 1 + (t.val % 8 * 512 + y1.val) = _
    omega
  · apply Fin.ext; blk_simp [i6]

/-- The keys' array after the call. -/
theorem array_k : (dat0 V c).arrAt 7 cfg0.N = fun i => proj (V c main_arg0) (V c main_arg3) (fun j => V c main_v1 (ix2 0 (j 0))) (i 0) (i 1) (i 2) := by
  refine (dat0 V c).arrAt_eq_of_covers 7 _ (by decide +kernel) fun t hf y => ?_
  obtain ⟨-, -, -, -, -, -, -, i7⟩ := where0 t
  blk_simp
  rw [after0_7]
  idx_vars y
  rw [projK_apply]
  refine unit_congr eps (fun e => congrArg₂ (· + ·) (Finset.sum_congr rfl fun d _ => congrArg₂ (· * ·) (rowOf_buf V c t y1 d _ _ ?_ ?_) (mat_k V c t e d)) (vec_k V c t e)) ?_
  · blk_simp [i7]
  · blk_simp [i7]
    show 1 + (t.val % 8 * 512 + y1.val) = _
    omega
  · apply Fin.ext; blk_simp [i7]

end Cert.Val

end
-- ==== Proof.Val.Result.lean ====
module

public import proofs.«01_k».proof.Proof.Val.Pre
public import proofs.«01_k».proof.Proof.Val.KerProj
public import proofs.«01_k».proof.Proof.KI.Launch

/-! # The kernel's results are the reference's -/

@[expose] public section

set_option maxRecDepth 16384

noncomputable section

namespace Cert.Val

open Idealize.ShloMosaic Idealize.ShloMosaic.TcCoe Idealize.ShloMosaic.Tactic
open Cert.KernelIdeal Cert.KernelIdeal.Gen Cert.KernelIdeal.Own

attribute [local instance] Cert.Pre_self_excluded.Gen.facts

variable (m : (ℓ : Loc nD τ sig) → Buf (Elt Ideal) ℓ) (ρ : Dev nD → PrngReg) (c : Dev nD)

/-- The launch's argument `a` on a device. -/
abbrev argOf (a : Ref sig .tc) : Buf (Elt Ideal) ((c : Thread nD τ).loc a) := m ((c : Thread nD τ).loc a)

/-- The bias the projection reads is the argument laid out as one row. -/
theorem bias_q (e : Fin 1024) : (V1 m ρ c main_v0 : FVec Ideal S1x1024 .f32) (ix2 0 e) = (argOf m c main_arg2 : FVec Ideal S1024 .f32) (ix1 e) := by
  have h : (StableHlo.after hostOps0 (W0 m ρ c) (Proc.devRef .tc main_v0) : FVec Ideal S1x1024 .f32) = shapeCast S1x1024 (argOf m c main_arg2 : FVec Ideal S1024 .f32) shapeCasts_S1024_S1x1024 := by
    after_results
    rfl
  refine (congrFun h (ix2 0 e)).trans ?_
  pointwise

/-- The same for the second bias. -/
theorem bias_k (e : Fin 1024) : (V1 m ρ c main_v1 : FVec Ideal S1x1024 .f32) (ix2 0 e) = (argOf m c main_arg4 : FVec Ideal S1024 .f32) (ix1 e) := by
  have h : (StableHlo.after hostOps0 (W0 m ρ c) (Proc.devRef .tc main_v1) : FVec Ideal S1x1024 .f32) = shapeCast S1x1024 (argOf m c main_arg4 : FVec Ideal S1024 .f32) shapeCasts_S1024_S1x1024 := by
    after_results
    rfl
  refine (congrFun h (ix2 0 e)).trans ?_
  pointwise

/-- The queries the routing call reads are the projection's. -/
theorem queries (n : Fin 2) (p : Fin 4096) (d : Fin 1024) :
    (V2 m ρ c main_v2_0 : FVec Ideal S2x4096x1024 .f32) (ix3 n p d) = proj (argOf m c main_arg0) (argOf m c main_arg1) (argOf m c main_arg2) n p d := by
  have h : V2 m ρ c main_v2_0 = (dat0 (V1 m ρ) c).arrAt 6 cfg0.N := W2_arr m ρ c 6
  rw [h, array_q, show V1 m ρ c main_arg0 = argOf m c main_arg0 from W1_args m ρ c main_arg0 (by decide),
    show V1 m ρ c main_arg1 = argOf m c main_arg1 from W1_args m ρ c main_arg1 (by decide)]
  have e : (fun j : S1024.Idx => (V1 m ρ c main_v0 : FVec Ideal S1x1024 .f32) (ix2 0 (j 0))) = argOf m c main_arg2 := funext fun j =>
    (bias_q m ρ c (j 0)).trans (congrArg (argOf m c main_arg2 : FVec Ideal S1024 .f32) (eq_ix1 j).symm)
  exact congrArg (fun b => proj (argOf m c main_arg0) (argOf m c main_arg1) b n p d) e

/-- So are the keys. -/
theorem keys (n : Fin 2) (p : Fin 4096) (d : Fin 1024) :
    (V2 m ρ c main_v2_1 : FVec Ideal S2x4096x1024 .f32) (ix3 n p d) = proj (argOf m c main_arg0) (argOf m c main_arg3) (argOf m c main_arg4) n p d := by
  have h : V2 m ρ c main_v2_1 = (dat0 (V1 m ρ) c).arrAt 7 cfg0.N := W2_arr m ρ c 7
  rw [h, array_k, show V1 m ρ c main_arg0 = argOf m c main_arg0 from W1_args m ρ c main_arg0 (by decide),
    show V1 m ρ c main_arg3 = argOf m c main_arg3 from W1_args m ρ c main_arg3 (by decide)]
  have e : (fun j : S1024.Idx => (V1 m ρ c main_v1 : FVec Ideal S1x1024 .f32) (ix2 0 (j 0))) = argOf m c main_arg4 := funext fun j =>
    (bias_k m ρ c (j 0)).trans (congrArg (argOf m c main_arg4 : FVec Ideal S1024 .f32) (eq_ix1 j).symm)
  exact congrArg (fun b => proj (argOf m c main_arg0) (argOf m c main_arg3) b n p d) e

/-- The scores of the launch's arguments. -/
abbrev scoreOf (n : Fin 2) (p : Fin 4096) : Fin 4096 → EReal :=
  score (argOf m c main_arg0) (argOf m c main_arg1) (argOf m c main_arg2) (argOf m c main_arg3) (argOf m c main_arg4) (argOf m c main_arg5) n p

theorem rows (n : Fin 2) (p : Fin 4096) : arrayRow (V2 m ρ c main_v2_0) (V2 m ρ c main_v2_1) (V2 m ρ c main_arg5) n p = scoreOf m c n p := by
  funext j
  unfold arrayRow scoreOf score
  rw [show V2 m ρ c main_arg5 = argOf m c main_arg5 from W2_args m ρ c main_arg5 (by decide)]
  exact congrArg (· + _) (Finset.sum_congr rfl fun d _ => congrArg₂ (· * ·) (queries m ρ c n p d) (keys m ρ c n j d))

variable (hpre : Cert.Pre_KernelIdeal_self_excluded m)
include hpre

theorem rows_excluded (n : Fin 2) (p : Fin 4096) : Excluded (scoreOf m c n p) p :=
  excluded _ _ _ _ _ _ n p fun j => pre_apply _ _ _ _ _ _ p j (congrFun (hpre c) (ix2 p j))

/-- The routes the kernel leaves are the reference's. -/
theorem routes_eq : (dat1 (V2 m ρ) c).arrAt 2 cfg1.N
    = Cert.ReferenceIdeal.Read.val_main_indices (F := Ideal) (argOf m c main_arg0) (argOf m c main_arg1) (argOf m c main_arg2) (argOf m c main_arg3) (argOf m c main_arg4) (argOf m c main_arg5) := by
  rw [array_routes (V2 m ρ) c (fun n p => picked (scoreOf m c n p)) fun n p k _ => by rw [rows]; exact lowest_picked _ k]
  funext i
  idx_vars i
  rw [ref_indices, ← picked_sorted (rows_excluded m c hpre i0 i1) i2.isLt]

/-- The weights the kernel leaves are the reference's. -/
theorem weights_eq : (dat1 (V2 m ρ) c).arrAt 3 cfg1.N
    = Cert.ReferenceIdeal.Read.val_main_v48 (F := Ideal) (argOf m c main_arg0) (argOf m c main_arg1) (argOf m c main_arg2) (argOf m c main_arg3) (argOf m c main_arg4) (argOf m c main_arg5) := by
  rw [array_weights (V2 m ρ) c (fun n p l => scoreOf m c n p (picked (scoreOf m c n p) l)) fun n p l hl => by rw [rows]; exact greatest_picked (rows_excluded m c hpre n p) hl]
  funext i
  idx_vars i
  rw [ref_weights, ← weight_softmax (rows_excluded m c hpre i0 i1) i2.isLt]

end Cert.Val

end
-- ==== Proof.lean ====
/- The projection and routing kernel: its run, the reference's run, and the equality of their results. -/
module

public import proofs.«01_k».proof.Defs
public import proofs.«01_k».proof.Proof.KB.Launch
public import proofs.«01_k».proof.Proof.KI.Launch
public import proofs.«01_k».proof.Proof.Val.Result
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_self_excluded

@[expose] public section

noncomputable section

namespace Cert.Proof

open Idealize.ShloMosaic Idealize.SL.Sem
open Cert.KernelIdeal Cert.KernelIdeal.Own

/-- The reference runs, leaves its arguments as they were, and has no counter to leave unsettled. -/
theorem frame_r : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run m ρ)

/-- The certified claims: the three runs, the named constant, and equal results from agreeing arguments. -/
theorem claim : Cert.Claim := ⟨Cert.Kernel.Gen.facts, Cert.KernelIdeal.Gen.facts, Cert.ReferenceIdeal.Gen.facts, Cert.Pre_self_excluded.Gen.facts,
  fun m ρ _ => Cert.Kernel.Own.frame m ρ, fun m ρ _ => Cert.KernelIdeal.Own.frame m ρ, fun m ρ _ => Cert.KernelIdeal.Own.frame m ρ,
  frame_r, fun m ρ _ => frame_r m ρ trivial,
  IdealRules.named_const.statement Cert.KernelIdeal.κ "inv_temp" .f32 0x41200000#32 ((134217728 / 13421773 : ℝ) : EReal) rfl,
  fun m g m' g' hpre hagree => ⟨fun c => (dat1 (V2 m g) c).arrAt 2 cfg1.N, fun c => (dat1 (V2 m g) c).arrAt 3 cfg1.N,
    (θ_run Cert.KernelIdeal.defs _ _).mono (fun r h c => ⟨(h.1 c _ (mem_uc main_v3_0 (by decide))).trans (W3_arr m g c 2), (h.1 c _ (mem_uc main_v3_1 (by decide))).trans (W3_arr m g c 3),
      (h.1 c _ (mem_uc main_arg0 (by decide))).trans (W3_main_arg0 m g c), (h.1 c _ (mem_uc main_arg1 (by decide))).trans (W3_main_arg1 m g c), (h.1 c _ (mem_uc main_arg2 (by decide))).trans (W3_main_arg2 m g c), (h.1 c _ (mem_uc main_arg3 (by decide))).trans (W3_main_arg3 m g c), (h.1 c _ (mem_uc main_arg4 (by decide))).trans (W3_main_arg4 m g c), (h.1 c _ (mem_uc main_arg5 (by decide))).trans (W3_main_arg5 m g c)⟩) (run_all m g),
    (θ_run Cert.ReferenceIdeal.defs _ _).mono (fun r h c => by
      obtain ⟨e0, e1, e2, e3, e4, e5⟩ := hagree c
      refine ⟨(h c).1.trans ?_, (h c).2.1.trans ?_, (h c).2.2⟩
      · rw [Cert.ReferenceIdeal.Read.val_main_indices_eq, e0, e1, e2, e3, e4, e5]
        exact (Cert.Val.routes_eq m g c hpre).symm
      · rw [Cert.ReferenceIdeal.Read.val_main_v48_eq, e0, e1, e2, e3, e4, e5]
        exact (Cert.Val.weights_eq m g c hpre).symm) (Cert.ReferenceIdeal.Value.run m' g')⟩⟩

end Cert.Proof

end
